-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x256 : Shape := ⟨2, ![10000, 256]⟩
abbrev S2x160000 : Shape := ⟨2, ![2, 160000]⟩
abbrev S160000x16 : Shape := ⟨2, ![160000, 16]⟩
abbrev S256x1024 : Shape := ⟨2, ![256, 1024]⟩
abbrev S1024 : Shape := ⟨1, ![1024]⟩
abbrev S16x1024 : Shape := ⟨2, ![16, 1024]⟩
abbrev S4x256 : Shape := ⟨2, ![4, 256]⟩
abbrev S1024x256 : Shape := ⟨2, ![1024, 256]⟩
abbrev S256 : Shape := ⟨1, ![256]⟩
abbrev S16x256 : Shape := ⟨2, ![16, 256]⟩
abbrev S1x256 : Shape := ⟨2, ![1, 256]⟩
abbrev S256x64 : Shape := ⟨2, ![256, 64]⟩
abbrev S64 : Shape := ⟨1, ![64]⟩
abbrev S1x160000 : Shape := ⟨2, ![1, 160000]⟩
abbrev S160000 : Shape := ⟨1, ![160000]⟩
abbrev S10000x1024 : Shape := ⟨2, ![10000, 1024]⟩
abbrev S1000x256 : Shape := ⟨2, ![1000, 256]⟩
abbrev S1000x1024 : Shape := ⟨2, ![1000, 1024]⟩
abbrev S1x1024 : Shape := ⟨2, ![1, 1024]⟩
abbrev S160000x1024 : Shape := ⟨2, ![160000, 1024]⟩
abbrev S2000x16 : Shape := ⟨2, ![2000, 16]⟩
abbrev S2000x1024 : Shape := ⟨2, ![2000, 1024]⟩
abbrev S10000x4x256 : Shape := ⟨3, ![10000, 4, 256]⟩
abbrev S160000x4x256 : Shape := ⟨3, ![160000, 4, 256]⟩
abbrev S_ : Shape := ⟨0, ![]⟩
abbrev S160000x1 : Shape := ⟨2, ![160000, 1]⟩
abbrev S1x4x256 : Shape := ⟨3, ![1, 4, 256]⟩
abbrev S160000x4 : Shape := ⟨2, ![160000, 4]⟩
abbrev S10000x4 : Shape := ⟨2, ![10000, 4]⟩
abbrev S160000x4x1 : Shape := ⟨3, ![160000, 4, 1]⟩
abbrev S10000x4x1 : Shape := ⟨3, ![10000, 4, 1]⟩
abbrev S160000x256 : Shape := ⟨2, ![160000, 256]⟩
abbrev S2000x256 : Shape := ⟨2, ![2000, 256]⟩
abbrev S10000x1x256 : Shape := ⟨3, ![10000, 1, 256]⟩
abbrev S160000x1x256 : Shape := ⟨3, ![160000, 1, 256]⟩
abbrev S1x1x256 : Shape := ⟨3, ![1, 1, 256]⟩
abbrev S10000x1 : Shape := ⟨2, ![10000, 1]⟩
abbrev S160000x1x1 : Shape := ⟨3, ![160000, 1, 1]⟩
abbrev S10000x1x1 : Shape := ⟨3, ![10000, 1, 1]⟩

abbrev nBuf : Space → Nat
  | .hbm => 170
  | .vmem => 30
  | .smem => 0
  | _ => 0

abbrev hbmTy0_0 (i : Nat) : BufTy := match i % 128 with
  | 0 => ⟨S10000x256, .f32⟩
  | 1 => ⟨S2x160000, .i32⟩
  | 2 => ⟨S160000x16, .f32⟩
  | 3 => ⟨S256x1024, .f32⟩
  | 4 => ⟨S1024, .f32⟩
  | 5 => ⟨S256x1024, .f32⟩
  | 6 => ⟨S1024, .f32⟩
  | 7 => ⟨S16x1024, .f32⟩
  | 8 => ⟨S4x256, .f32⟩
  | 9 => ⟨S1024, .f32⟩
  | 10 => ⟨S1024x256, .f32⟩
  | 11 => ⟨S256, .f32⟩
  | 12 => ⟨S1024x256, .f32⟩
  | 13 => ⟨S256, .f32⟩
  | 14 => ⟨S16x256, .f32⟩
  | 15 => ⟨S1x256, .f32⟩
  | 16 => ⟨S256, .f32⟩
  | 17 => ⟨S256x64, .f32⟩
  | 18 => ⟨S64, .f32⟩
  | 19 => ⟨S1x160000, .i32⟩
  | 20 => ⟨S160000, .i32⟩
  | 21 => ⟨S1x160000, .i32⟩
  | 22 => ⟨S160000, .i32⟩
  | 23 => ⟨S10000x1024, .f32⟩
  | 24 => ⟨S1x1024, .f32⟩
  | 25 => ⟨S10000x1024, .f32⟩
  | 26 => ⟨S10000x1024, .f32⟩
  | 27 => ⟨S10000x1024, .f32⟩
  | 28 => ⟨S1x1024, .f32⟩
  | 29 => ⟨S10000x1024, .f32⟩
  | 30 => ⟨S10000x1024, .f32⟩
  | 31 => ⟨S160000x1024, .f32⟩
  | 32 => ⟨S10000x4x256, .f32⟩
  | 33 => ⟨S10000x4x256, .f32⟩
  | 34 => ⟨S160000x4x256, .f32⟩
  | 35 => ⟨S_, .i32⟩
  | 36 => ⟨S160000, .i32⟩
  | 37 => ⟨S160000, .i1⟩
  | 38 => ⟨S_, .i32⟩
  | 39 => ⟨S160000, .i32⟩
  | 40 => ⟨S160000, .i32⟩
  | 41 => ⟨S160000, .i32⟩
  | 42 => ⟨S160000x1, .i32⟩
  | 43 => ⟨S160000x4x256, .f32⟩
  | 44 => ⟨S_, .i32⟩
  | 45 => ⟨S160000, .i32⟩
  | 46 => ⟨S160000, .i1⟩
  | 47 => ⟨S_, .i32⟩
  | 48 => ⟨S160000, .i32⟩
  | 49 => ⟨S160000, .i32⟩
  | 50 => ⟨S160000, .i32⟩
  | 51 => ⟨S160000x1, .i32⟩
  | 52 => ⟨S160000x4x256, .f32⟩
  | 53 => ⟨S160000x4x256, .f32⟩
  | 54 => ⟨S160000x4x256, .f32⟩
  | 55 => ⟨S_, .f32⟩
  | 56 => ⟨S_, .f32⟩
  | 57 => ⟨S160000x4x256, .f32⟩
  | 58 => ⟨S160000x4x256, .i1⟩
  | 59 => ⟨S_, .f32⟩
  | 60 => ⟨S160000x4x256, .f32⟩
  | 61 => ⟨S160000x4x256, .f32⟩
  | 62 => ⟨S160000x4x256, .f32⟩
  | 63 => ⟨S1x4x256, .f32⟩
  | 64 => ⟨S160000x4x256, .f32⟩
  | 65 => ⟨S160000x4x256, .f32⟩
  | 66 => ⟨S_, .f32⟩
  | 67 => ⟨S160000x4, .f32⟩
  | 68 => ⟨S160000x4, .f32⟩
  | 69 => ⟨S_, .f32⟩
  | 70 => ⟨S10000x4, .f32⟩
  | 71 => ⟨S160000x1, .i32⟩
  | 72 => ⟨S10000x4, .f32⟩
  | 73 => ⟨S160000x4x1, .f32⟩
  | 74 => ⟨S160000x4x256, .f32⟩
  | 75 => ⟨S160000x4x256, .f32⟩
  | 76 => ⟨S_, .f32⟩
  | 77 => ⟨S10000x4x256, .f32⟩
  | 78 => ⟨S160000x1, .i32⟩
  | 79 => ⟨S10000x4x256, .f32⟩
  | 80 => ⟨S10000x4x1, .f32⟩
  | 81 => ⟨S_, .f32⟩
  | 82 => ⟨S10000x4x1, .f32⟩
  | 83 => ⟨S10000x4x1, .f32⟩
  | 84 => ⟨S10000x4x256, .f32⟩
  | 85 => ⟨S10000x4x256, .f32⟩
  | 86 => ⟨S10000x1024, .f32⟩
  | 87 => ⟨S1x1024, .f32⟩
  | 88 => ⟨S10000x1024, .f32⟩
  | 89 => ⟨S10000x1024, .f32⟩
  | 90 => ⟨S_, .f32⟩
  | 91 => ⟨S10000x1024, .f32⟩
  | 92 => ⟨S10000x1024, .f32⟩
  | 93 => ⟨S10000x256, .f32⟩
  | 94 => ⟨S1x256, .f32⟩
  | 95 => ⟨S10000x256, .f32⟩
  | 96 => ⟨S10000x256, .f32⟩
  | 97 => ⟨S10000x256, .f32⟩
  | 98 => ⟨S1x256, .f32⟩
  | 99 => ⟨S10000x256, .f32⟩
  | 100 => ⟨S10000x256, .f32⟩
  | 101 => ⟨S160000x256, .f32⟩
  | 102 => ⟨S10000x1x256, .f32⟩
  | 103 => ⟨S10000x1x256, .f32⟩
  | 104 => ⟨S160000x1x256, .f32⟩
  | 105 => ⟨S_, .i32⟩
  | 106 => ⟨S160000, .i32⟩
  | 107 => ⟨S160000, .i1⟩
  | 108 => ⟨S_, .i32⟩
  | 109 => ⟨S160000, .i32⟩
  | 110 => ⟨S160000, .i32⟩
  | 111 => ⟨S160000, .i32⟩
  | 112 => ⟨S160000x1, .i32⟩
  | 113 => ⟨S160000x1x256, .f32⟩
  | 114 => ⟨S_, .i32⟩
  | 115 => ⟨S160000, .i32⟩
  | 116 => ⟨S160000, .i1⟩
  | 117 => ⟨S_, .i32⟩
  | 118 => ⟨S160000, .i32⟩
  | 119 => ⟨S160000, .i32⟩
  | 120 => ⟨S160000, .i32⟩
  | 121 => ⟨S160000x1, .i32⟩
  | 122 => ⟨S160000x1x256, .f32⟩
  | 123 => ⟨S160000x1x256, .f32⟩
  | 124 => ⟨S160000x1x256, .f32⟩
  | 125 => ⟨S_, .f32⟩
  | 126 => ⟨S_, .f32⟩
  | 127 => ⟨S160000x1x256, .f32⟩
  | _ => ⟨S10000x256, .f32⟩

abbrev hbmTy0_1 (i : Nat) : BufTy := match i % 128 with
  | 0 => ⟨S160000x1x256, .i1⟩
  | 1 => ⟨S_, .f32⟩
  | 2 => ⟨S160000x1x256, .f32⟩
  | 3 => ⟨S160000x1x256, .f32⟩
  | 4 => ⟨S160000x1x256, .f32⟩
  | 5 => ⟨S1x1x256, .f32⟩
  | 6 => ⟨S160000x1x256, .f32⟩
  | 7 => ⟨S160000x1x256, .f32⟩
  | 8 => ⟨S_, .f32⟩
  | 9 => ⟨S160000x1, .f32⟩
  | 10 => ⟨S160000x1, .f32⟩
  | 11 => ⟨S_, .f32⟩
  | 12 => ⟨S10000x1, .f32⟩
  | 13 => ⟨S160000x1, .i32⟩
  | 14 => ⟨S10000x1, .f32⟩
  | 15 => ⟨S160000x1x1, .f32⟩
  | 16 => ⟨S160000x1x256, .f32⟩
  | 17 => ⟨S160000x1x256, .f32⟩
  | 18 => ⟨S_, .f32⟩
  | 19 => ⟨S10000x1x256, .f32⟩
  | 20 => ⟨S160000x1, .i32⟩
  | 21 => ⟨S10000x1x256, .f32⟩
  | 22 => ⟨S10000x1x1, .f32⟩
  | 23 => ⟨S_, .f32⟩
  | 24 => ⟨S10000x1x1, .f32⟩
  | 25 => ⟨S10000x1x1, .f32⟩
  | 26 => ⟨S10000x1x256, .f32⟩
  | 27 => ⟨S10000x1x256, .f32⟩
  | 28 => ⟨S10000x256, .f32⟩
  | 29 => ⟨S1x256, .f32⟩
  | 30 => ⟨S10000x256, .f32⟩
  | 31 => ⟨S10000x256, .f32⟩
  | 32 => ⟨S_, .f32⟩
  | 33 => ⟨S10000x256, .f32⟩
  | 34 => ⟨S10000x256, .f32⟩
  | 35 => ⟨S_, .f32⟩
  | 36 => ⟨S256, .f32⟩
  | 37 => ⟨S_, .f32⟩
  | 38 => ⟨S256, .f32⟩
  | 39 => ⟨S256, .f32⟩
  | 40 => ⟨S64, .f32⟩
  | 41 => ⟨S64, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x1024, .f32⟩
  | .local _ .vmem, ⟨3, _⟩ => ⟨S1000x1024, .f32⟩
  | .local _ .vmem, ⟨4, _⟩ => ⟨S1000x1024, .f32⟩
  | .local _ .vmem, ⟨5, _⟩ => ⟨S1000x256, .f32⟩
  | .local _ .vmem, ⟨6, _⟩ => ⟨S1000x256, .f32⟩
  | .local _ .vmem, ⟨7, _⟩ => ⟨S256x1024, .f32⟩
  | .local _ .vmem, ⟨8, _⟩ => ⟨S1000x1024, .f32⟩
  | .local _ .vmem, ⟨9, _⟩ => ⟨S1000x1024, .f32⟩
  | .local _ .vmem, ⟨10, _⟩ => ⟨S2000x16, .f32⟩
  | .local _ .vmem, ⟨11, _⟩ => ⟨S2000x16, .f32⟩
  | .local _ .vmem, ⟨12, _⟩ => ⟨S16x1024, .f32⟩
  | .local _ .vmem, ⟨13, _⟩ => ⟨S2000x1024, .f32⟩
  | .local _ .vmem, ⟨14, _⟩ => ⟨S2000x1024, .f32⟩
  | .local _ .vmem, ⟨15, _⟩ => ⟨S1000x1024, .f32⟩
  | .local _ .vmem, ⟨16, _⟩ => ⟨S1000x1024, .f32⟩
  | .local _ .vmem, ⟨17, _⟩ => ⟨S1024x256, .f32⟩
  | .local _ .vmem, ⟨18, _⟩ => ⟨S1000x256, .f32⟩
  | .local _ .vmem, ⟨19, _⟩ => ⟨S1000x256, .f32⟩
  | .local _ .vmem, ⟨20, _⟩ => ⟨S1000x1024, .f32⟩
  | .local _ .vmem, ⟨21, _⟩ => ⟨S1000x1024, .f32⟩
  | .local _ .vmem, ⟨22, _⟩ => ⟨S1024x256, .f32⟩
  | .local _ .vmem, ⟨23, _⟩ => ⟨S1000x256, .f32⟩
  | .local _ .vmem, ⟨24, _⟩ => ⟨S1000x256, .f32⟩
  | .local _ .vmem, ⟨25, _⟩ => ⟨S2000x16, .f32⟩
  | .local _ .vmem, ⟨26, _⟩ => ⟨S2000x16, .f32⟩
  | .local _ .vmem, ⟨27, _⟩ => ⟨S16x256, .f32⟩
  | .local _ .vmem, ⟨28, _⟩ => ⟨S2000x256, .f32⟩
  | .local _ .vmem, ⟨29, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_1 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_3 : Ref sig .tc := ⟨.hbm, 66, rfl⟩
abbrev main_v36 : Ref sig .tc := ⟨.hbm, 67, rfl⟩
abbrev main_v37 : Ref sig .tc := ⟨.hbm, 68, rfl⟩
abbrev main_cst_4 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_6 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_call1_cst : Ref sig .tc := ⟨.hbm, 90, rfl⟩
abbrev main_call1_v0 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_7 : Ref sig .tc := ⟨.hbm, 105, rfl⟩
abbrev main_v69 : Ref sig .tc := ⟨.hbm, 106, rfl⟩
abbrev main_v70 : Ref sig .tc := ⟨.hbm, 107, rfl⟩
abbrev main_c_8 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c_9 : Ref sig .tc := ⟨.hbm, 114, rfl⟩
abbrev main_v76 : Ref sig .tc := ⟨.hbm, 115, rfl⟩
abbrev main_v77 : Ref sig .tc := ⟨.hbm, 116, rfl⟩
abbrev main_c_10 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_11 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_12 : Ref sig .tc := ⟨.hbm, 136, rfl⟩
abbrev main_v89 : Ref sig .tc := ⟨.hbm, 137, rfl⟩
abbrev main_v90 : Ref sig .tc := ⟨.hbm, 138, rfl⟩
abbrev main_cst_13 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_cst_14 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_cst_15 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_call3_cst : Ref sig .tc := ⟨.hbm, 160, rfl⟩
abbrev main_call3_v0 : Ref sig .tc := ⟨.hbm, 161, rfl⟩
abbrev main_v109 : Ref sig .tc := ⟨.hbm, 162, rfl⟩
abbrev main_cst_16 : Ref sig .tc := ⟨.hbm, 163, rfl⟩
abbrev main_v110 : Ref sig .tc := ⟨.hbm, 164, rfl⟩
abbrev main_cst_17 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![80], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== ReferenceIdeal.lean ====
abbrev S10000x256 : Shape := ⟨2, ![10000, 256]⟩
abbrev S2x160000 : Shape := ⟨2, ![2, 160000]⟩
abbrev S160000x16 : Shape := ⟨2, ![160000, 16]⟩
abbrev S256x1024 : Shape := ⟨2, ![256, 1024]⟩
abbrev S1024 : Shape := ⟨1, ![1024]⟩
abbrev S16x1024 : Shape := ⟨2, ![16, 1024]⟩
abbrev S4x256 : Shape := ⟨2, ![4, 256]⟩
abbrev S1024x256 : Shape := ⟨2, ![1024, 256]⟩
abbrev S256 : Shape := ⟨1, ![256]⟩
abbrev S16x256 : Shape := ⟨2, ![16, 256]⟩
abbrev S1x256 : Shape := ⟨2, ![1, 256]⟩
abbrev S256x64 : Shape := ⟨2, ![256, 64]⟩
abbrev S64 : Shape := ⟨1, ![64]⟩
abbrev S1x160000 : Shape := ⟨2, ![1, 160000]⟩
abbrev S160000 : Shape := ⟨1, ![160000]⟩
abbrev S10000x1024 : Shape := ⟨2, ![10000, 1024]⟩
abbrev S1x1024 : Shape := ⟨2, ![1, 1024]⟩
abbrev S10000x4x256 : Shape := ⟨3, ![10000, 4, 256]⟩
abbrev S160000x1024 : Shape := ⟨2, ![160000, 1024]⟩
abbrev S160000x4x256 : Shape := ⟨3, ![160000, 4, 256]⟩
abbrev S_ : Shape := ⟨0, ![]⟩
abbrev S160000x1 : Shape := ⟨2, ![160000, 1]⟩
abbrev S1x4x256 : Shape := ⟨3, ![1, 4, 256]⟩
abbrev S160000x4 : Shape := ⟨2, ![160000, 4]⟩
abbrev S10000 : Shape := ⟨1, ![10000]⟩
abbrev S10000x1 : Shape := ⟨2, ![10000, 1]⟩
abbrev S10000x160000 : Shape := ⟨2, ![10000, 160000]⟩
abbrev S10000x160000x1 : Shape := ⟨3, ![10000, 160000, 1]⟩
abbrev S1x160000x4 : Shape := ⟨3, ![1, 160000, 4]⟩
abbrev S10000x160000x4 : Shape := ⟨3, ![10000, 160000, 4]⟩
abbrev S10000x4 : Shape := ⟨2, ![10000, 4]⟩
abbrev S160000x4x1 : Shape := ⟨3, ![160000, 4, 1]⟩
abbrev S10000x1x256 : Shape := ⟨3, ![10000, 1, 256]⟩
abbrev S160000x256 : Shape := ⟨2, ![160000, 256]⟩
abbrev S160000x1x256 : Shape := ⟨3, ![160000, 1, 256]⟩
abbrev S1x1x256 : Shape := ⟨3, ![1, 1, 256]⟩
abbrev S1x160000x1 : Shape := ⟨3, ![1, 160000, 1]⟩
abbrev S160000x1x1 : Shape := ⟨3, ![160000, 1, 1]⟩

abbrev nBuf : Space → Nat
  | .hbm => 275
  | .vmem => 0
  | .smem => 0
  | _ => 0

abbrev hbmTy0_0 (i : Nat) : BufTy := match i % 128 with
  | 0 => ⟨S10000x256, .f32⟩
  | 1 => ⟨S2x160000, .i32⟩
  | 2 => ⟨S160000x16, .f32⟩
  | 3 => ⟨S256x1024, .f32⟩
  | 4 => ⟨S1024, .f32⟩
  | 5 => ⟨S256x1024, .f32⟩
  | 6 => ⟨S1024, .f32⟩
  | 7 => ⟨S16x1024, .f32⟩
  | 8 => ⟨S4x256, .f32⟩
  | 9 => ⟨S1024, .f32⟩
  | 10 => ⟨S1024x256, .f32⟩
  | 11 => ⟨S256, .f32⟩
  | 12 => ⟨S1024x256, .f32⟩
  | 13 => ⟨S256, .f32⟩
  | 14 => ⟨S16x256, .f32⟩
  | 15 => ⟨S1x256, .f32⟩
  | 16 => ⟨S256, .f32⟩
  | 17 => ⟨S256x64, .f32⟩
  | 18 => ⟨S64, .f32⟩
  | 19 => ⟨S1x160000, .i32⟩
  | 20 => ⟨S160000, .i32⟩
  | 21 => ⟨S1x160000, .i32⟩
  | 22 => ⟨S160000, .i32⟩
  | 23 => ⟨S10000x1024, .f32⟩
  | 24 => ⟨S1x1024, .f32⟩
  | 25 => ⟨S10000x1024, .f32⟩
  | 26 => ⟨S10000x1024, .f32⟩
  | 27 => ⟨S10000x4x256, .f32⟩
  | 28 => ⟨S10000x1024, .f32⟩
  | 29 => ⟨S1x1024, .f32⟩
  | 30 => ⟨S10000x1024, .f32⟩
  | 31 => ⟨S10000x1024, .f32⟩
  | 32 => ⟨S10000x4x256, .f32⟩
  | 33 => ⟨S160000x1024, .f32⟩
  | 34 => ⟨S160000x4x256, .f32⟩
  | 35 => ⟨S_, .i32⟩
  | 36 => ⟨S160000, .i32⟩
  | 37 => ⟨S160000, .i1⟩
  | 38 => ⟨S_, .i32⟩
  | 39 => ⟨S160000, .i32⟩
  | 40 => ⟨S160000, .i32⟩
  | 41 => ⟨S160000, .i32⟩
  | 42 => ⟨S160000x1, .i32⟩
  | 43 => ⟨S160000x4x256, .f32⟩
  | 44 => ⟨S_, .i32⟩
  | 45 => ⟨S160000, .i32⟩
  | 46 => ⟨S160000, .i1⟩
  | 47 => ⟨S_, .i32⟩
  | 48 => ⟨S160000, .i32⟩
  | 49 => ⟨S160000, .i32⟩
  | 50 => ⟨S160000, .i32⟩
  | 51 => ⟨S160000x1, .i32⟩
  | 52 => ⟨S160000x4x256, .f32⟩
  | 53 => ⟨S160000x4x256, .f32⟩
  | 54 => ⟨S160000x4x256, .f32⟩
  | 55 => ⟨S_, .f32⟩
  | 56 => ⟨S_, .f32⟩
  | 57 => ⟨S160000x4x256, .f32⟩
  | 58 => ⟨S160000x4x256, .i1⟩
  | 59 => ⟨S_, .f32⟩
  | 60 => ⟨S160000x4x256, .f32⟩
  | 61 => ⟨S160000x4x256, .f32⟩
  | 62 => ⟨S160000x4x256, .f32⟩
  | 63 => ⟨S1x4x256, .f32⟩
  | 64 => ⟨S160000x4x256, .f32⟩
  | 65 => ⟨S160000x4x256, .f32⟩
  | 66 => ⟨S_, .f32⟩
  | 67 => ⟨S160000x4, .f32⟩
  | 68 => ⟨S1x160000, .i32⟩
  | 69 => ⟨S10000, .i32⟩
  | 70 => ⟨S10000x1, .i32⟩
  | 71 => ⟨S10000x160000, .i32⟩
  | 72 => ⟨S10000x160000, .i32⟩
  | 73 => ⟨S10000x160000, .i1⟩
  | 74 => ⟨S10000x160000x1, .i1⟩
  | 75 => ⟨S1x160000x4, .f32⟩
  | 76 => ⟨S_, .f32⟩
  | 77 => ⟨S_, .f32⟩
  | 78 => ⟨S10000x160000x4, .i1⟩
  | 79 => ⟨S10000x160000x4, .f32⟩
  | 80 => ⟨S10000x160000x4, .f32⟩
  | 81 => ⟨S10000x160000x4, .f32⟩
  | 82 => ⟨S_, .f32⟩
  | 83 => ⟨S10000x4, .f32⟩
  | 84 => ⟨S10000x4, .f32⟩
  | 85 => ⟨S_, .f32⟩
  | 86 => ⟨S10000x4, .f32⟩
  | 87 => ⟨S10000x4, .i1⟩
  | 88 => ⟨S_, .f32⟩
  | 89 => ⟨S_, .f32⟩
  | 90 => ⟨S10000x4, .f32⟩
  | 91 => ⟨S10000x4, .f32⟩
  | 92 => ⟨S_, .i32⟩
  | 93 => ⟨S160000, .i32⟩
  | 94 => ⟨S160000, .i1⟩
  | 95 => ⟨S_, .i32⟩
  | 96 => ⟨S160000, .i32⟩
  | 97 => ⟨S160000, .i32⟩
  | 98 => ⟨S160000, .i32⟩
  | 99 => ⟨S160000x1, .i32⟩
  | 100 => ⟨S160000x4, .f32⟩
  | 101 => ⟨S160000x4, .f32⟩
  | 102 => ⟨S160000x4, .f32⟩
  | 103 => ⟨S_, .f32⟩
  | 104 => ⟨S10000x4, .f32⟩
  | 105 => ⟨S160000x1, .i32⟩
  | 106 => ⟨S10000x4, .f32⟩
  | 107 => ⟨S_, .i32⟩
  | 108 => ⟨S160000, .i32⟩
  | 109 => ⟨S160000, .i1⟩
  | 110 => ⟨S_, .i32⟩
  | 111 => ⟨S160000, .i32⟩
  | 112 => ⟨S160000, .i32⟩
  | 113 => ⟨S160000, .i32⟩
  | 114 => ⟨S160000x1, .i32⟩
  | 115 => ⟨S160000x4, .f32⟩
  | 116 => ⟨S_, .i32⟩
  | 117 => ⟨S160000, .i32⟩
  | 118 => ⟨S160000, .i1⟩
  | 119 => ⟨S_, .i32⟩
  | 120 => ⟨S160000, .i32⟩
  | 121 => ⟨S160000, .i32⟩
  | 122 => ⟨S160000, .i32⟩
  | 123 => ⟨S160000x1, .i32⟩
  | 124 => ⟨S160000x4, .f32⟩
  | 125 => ⟨S160000x4, .f32⟩
  | 126 => ⟨S160000x4, .f32⟩
  | 127 => ⟨S_, .f32⟩
  | _ => ⟨S10000x256, .f32⟩

abbrev hbmTy0_1 (i : Nat) : BufTy := match i % 128 with
  | 0 => ⟨S160000x4, .f32⟩
  | 1 => ⟨S160000x4, .f32⟩
  | 2 => ⟨S160000x4, .f32⟩
  | 3 => ⟨S160000x4, .f32⟩
  | 4 => ⟨S160000x4x1, .f32⟩
  | 5 => ⟨S160000x4x256, .f32⟩
  | 6 => ⟨S160000x4x256, .f32⟩
  | 7 => ⟨S_, .f32⟩
  | 8 => ⟨S10000x4x256, .f32⟩
  | 9 => ⟨S160000x1, .i32⟩
  | 10 => ⟨S10000x4x256, .f32⟩
  | 11 => ⟨S10000x1024, .f32⟩
  | 12 => ⟨S1x1024, .f32⟩
  | 13 => ⟨S10000x1024, .f32⟩
  | 14 => ⟨S10000x1024, .f32⟩
  | 15 => ⟨S_, .f32⟩
  | 16 => ⟨S10000x1024, .f32⟩
  | 17 => ⟨S10000x1024, .f32⟩
  | 18 => ⟨S10000x256, .f32⟩
  | 19 => ⟨S1x256, .f32⟩
  | 20 => ⟨S10000x256, .f32⟩
  | 21 => ⟨S10000x256, .f32⟩
  | 22 => ⟨S10000x1x256, .f32⟩
  | 23 => ⟨S10000x256, .f32⟩
  | 24 => ⟨S1x256, .f32⟩
  | 25 => ⟨S10000x256, .f32⟩
  | 26 => ⟨S10000x256, .f32⟩
  | 27 => ⟨S10000x1x256, .f32⟩
  | 28 => ⟨S160000x256, .f32⟩
  | 29 => ⟨S160000x1x256, .f32⟩
  | 30 => ⟨S_, .i32⟩
  | 31 => ⟨S160000, .i32⟩
  | 32 => ⟨S160000, .i1⟩
  | 33 => ⟨S_, .i32⟩
  | 34 => ⟨S160000, .i32⟩
  | 35 => ⟨S160000, .i32⟩
  | 36 => ⟨S160000, .i32⟩
  | 37 => ⟨S160000x1, .i32⟩
  | 38 => ⟨S160000x1x256, .f32⟩
  | 39 => ⟨S_, .i32⟩
  | 40 => ⟨S160000, .i32⟩
  | 41 => ⟨S160000, .i1⟩
  | 42 => ⟨S_, .i32⟩
  | 43 => ⟨S160000, .i32⟩
  | 44 => ⟨S160000, .i32⟩
  | 45 => ⟨S160000, .i32⟩
  | 46 => ⟨S160000x1, .i32⟩
  | 47 => ⟨S160000x1x256, .f32⟩
  | 48 => ⟨S160000x1x256, .f32⟩
  | 49 => ⟨S160000x1x256, .f32⟩
  | 50 => ⟨S_, .f32⟩
  | 51 => ⟨S_, .f32⟩
  | 52 => ⟨S160000x1x256, .f32⟩
  | 53 => ⟨S160000x1x256, .i1⟩
  | 54 => ⟨S_, .f32⟩
  | 55 => ⟨S160000x1x256, .f32⟩
  | 56 => ⟨S160000x1x256, .f32⟩
  | 57 => ⟨S160000x1x256, .f32⟩
  | 58 => ⟨S1x1x256, .f32⟩
  | 59 => ⟨S160000x1x256, .f32⟩
  | 60 => ⟨S160000x1x256, .f32⟩
  | 61 => ⟨S_, .f32⟩
  | 62 => ⟨S160000x1, .f32⟩
  | 63 => ⟨S1x160000, .i32⟩
  | 64 => ⟨S10000, .i32⟩
  | 65 => ⟨S10000x1, .i32⟩
  | 66 => ⟨S10000x160000, .i32⟩
  | 67 => ⟨S10000x160000, .i32⟩
  | 68 => ⟨S10000x160000, .i1⟩
  | 69 => ⟨S10000x160000x1, .i1⟩
  | 70 => ⟨S1x160000x1, .f32⟩
  | 71 => ⟨S_, .f32⟩
  | 72 => ⟨S_, .f32⟩
  | 73 => ⟨S10000x160000x1, .f32⟩
  | 74 => ⟨S10000x160000x1, .f32⟩
  | 75 => ⟨S10000x160000x1, .f32⟩
  | 76 => ⟨S_, .f32⟩
  | 77 => ⟨S10000x1, .f32⟩
  | 78 => ⟨S10000x1, .f32⟩
  | 79 => ⟨S_, .f32⟩
  | 80 => ⟨S10000x1, .f32⟩
  | 81 => ⟨S10000x1, .i1⟩
  | 82 => ⟨S_, .f32⟩
  | 83 => ⟨S_, .f32⟩
  | 84 => ⟨S10000x1, .f32⟩
  | 85 => ⟨S10000x1, .f32⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S160000x1, .i32⟩
  | 94 => ⟨S160000x1, .f32⟩
  | 95 => ⟨S160000x1, .f32⟩
  | 96 => ⟨S160000x1, .f32⟩
  | 97 => ⟨S_, .f32⟩
  | 98 => ⟨S10000x1, .f32⟩
  | 99 => ⟨S160000x1, .i32⟩
  | 100 => ⟨S10000x1, .f32⟩
  | 101 => ⟨S_, .i32⟩
  | 102 => ⟨S160000, .i32⟩
  | 103 => ⟨S160000, .i1⟩
  | 104 => ⟨S_, .i32⟩
  | 105 => ⟨S160000, .i32⟩
  | 106 => ⟨S160000, .i32⟩
  | 107 => ⟨S160000, .i32⟩
  | 108 => ⟨S160000x1, .i32⟩
  | 109 => ⟨S160000x1, .f32⟩
  | 110 => ⟨S_, .i32⟩
  | 111 => ⟨S160000, .i32⟩
  | 112 => ⟨S160000, .i1⟩
  | 113 => ⟨S_, .i32⟩
  | 114 => ⟨S160000, .i32⟩
  | 115 => ⟨S160000, .i32⟩
  | 116 => ⟨S160000, .i32⟩
  | 117 => ⟨S160000x1, .i32⟩
  | 118 => ⟨S160000x1, .f32⟩
  | 119 => ⟨S160000x1, .f32⟩
  | 120 => ⟨S160000x1, .f32⟩
  | 121 => ⟨S_, .f32⟩
  | 122 => ⟨S160000x1, .f32⟩
  | 123 => ⟨S160000x1, .f32⟩
  | 124 => ⟨S160000x1, .f32⟩
  | 125 => ⟨S160000x1, .f32⟩
  | 126 => ⟨S160000x1x1, .f32⟩
  | 127 => ⟨S160000x1x256, .f32⟩
  | _ => ⟨S10000x256, .f32⟩

abbrev hbmTy0_2 (i : Nat) : BufTy := match i % 128 with
  | 0 => ⟨S160000x1x256, .f32⟩
  | 1 => ⟨S_, .f32⟩
  | 2 => ⟨S10000x1x256, .f32⟩
  | 3 => ⟨S160000x1, .i32⟩
  | 4 => ⟨S10000x1x256, .f32⟩
  | 5 => ⟨S10000x256, .f32⟩
  | 6 => ⟨S1x256, .f32⟩
  | 7 => ⟨S10000x256, .f32⟩
  | 8 => ⟨S10000x256, .f32⟩
  | 9 => ⟨S_, .f32⟩
  | 10 => ⟨S10000x256, .f32⟩
  | 11 => ⟨S10000x256, .f32⟩
  | 12 => ⟨S_, .f32⟩
  | 13 => ⟨S256, .f32⟩
  | 14 => ⟨S_, .f32⟩
  | 15 => ⟨S256, .f32⟩
  | 16 => ⟨S256, .f32⟩
  | 17 => ⟨S64, .f32⟩
  | 18 => ⟨S64, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_1 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_3 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_4 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_v45 : Ref sig .tc := ⟨.hbm, 81, rfl⟩
abbrev main_cst_5 : Ref sig .tc := ⟨.hbm, 82, rfl⟩
abbrev main_v46 : Ref sig .tc := ⟨.hbm, 83, rfl⟩
abbrev main_v47 : Ref sig .tc := ⟨.hbm, 84, rfl⟩
abbrev main_cst_6 : Ref sig .tc := ⟨.hbm, 85, rfl⟩
abbrev main_v48 : Ref sig .tc := ⟨.hbm, 86, rfl⟩
abbrev main_v49 : Ref sig .tc := ⟨.hbm, 87, rfl⟩
abbrev main_cst_7 : Ref sig .tc := ⟨.hbm, 88, rfl⟩
abbrev main_call2_v0 : Ref sig .tc := ⟨.hbm, 89, rfl⟩
abbrev main_call2_v1 : Ref sig .tc := ⟨.hbm, 90, rfl⟩
abbrev main_v50 : Ref sig .tc := ⟨.hbm, 91, rfl⟩
abbrev main_c_8 : Ref sig .tc := ⟨.hbm, 92, rfl⟩
abbrev main_v51 : Ref sig .tc := ⟨.hbm, 93, rfl⟩
abbrev main_v52 : Ref sig .tc := ⟨.hbm, 94, rfl⟩
abbrev main_c_9 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_10 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_c_11 : Ref sig .tc := ⟨.hbm, 107, rfl⟩
abbrev main_v63 : Ref sig .tc := ⟨.hbm, 108, rfl⟩
abbrev main_v64 : Ref sig .tc := ⟨.hbm, 109, rfl⟩
abbrev main_c_12 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_c_13 : Ref sig .tc := ⟨.hbm, 116, rfl⟩
abbrev main_v70 : Ref sig .tc := ⟨.hbm, 117, rfl⟩
abbrev main_v71 : Ref sig .tc := ⟨.hbm, 118, rfl⟩
abbrev main_c_14 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_15 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_16 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_call3_cst : Ref sig .tc := ⟨.hbm, 143, rfl⟩
abbrev main_call3_v0 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_c_17 : Ref sig .tc := ⟨.hbm, 158, rfl⟩
abbrev main_v106 : Ref sig .tc := ⟨.hbm, 159, rfl⟩
abbrev main_v107 : Ref sig .tc := ⟨.hbm, 160, rfl⟩
abbrev main_c_18 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_c_19 : Ref sig .tc := ⟨.hbm, 167, rfl⟩
abbrev main_v113 : Ref sig .tc := ⟨.hbm, 168, rfl⟩
abbrev main_v114 : Ref sig .tc := ⟨.hbm, 169, rfl⟩
abbrev main_c_20 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_cst_21 : Ref sig .tc := ⟨.hbm, 178, rfl⟩
abbrev main_call4_cst : Ref sig .tc := ⟨.hbm, 179, rfl⟩
abbrev main_call4_v0 : Ref sig .tc := ⟨.hbm, 180, rfl⟩
abbrev main_call4_v1 : Ref sig .tc := ⟨.hbm, 181, rfl⟩
abbrev main_call4_v2 : Ref sig .tc := ⟨.hbm, 182, rfl⟩
abbrev main_call4_v3 : Ref sig .tc := ⟨.hbm, 183, rfl⟩
abbrev main_call4_v4 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_cst_22 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_cst_23 : Ref sig .tc := ⟨.hbm, 199, rfl⟩
abbrev main_call5_v0 : Ref sig .tc := ⟨.hbm, 200, rfl⟩
abbrev main_call5_v1 : Ref sig .tc := ⟨.hbm, 201, rfl⟩
abbrev main_call5_v2 : Ref sig .tc := ⟨.hbm, 202, rfl⟩
abbrev main_v135 : Ref sig .tc := ⟨.hbm, 203, rfl⟩
abbrev main_cst_24 : Ref sig .tc := ⟨.hbm, 204, rfl⟩
abbrev main_v136 : Ref sig .tc := ⟨.hbm, 205, rfl⟩
abbrev main_v137 : Ref sig .tc := ⟨.hbm, 206, rfl⟩
abbrev main_cst_25 : Ref sig .tc := ⟨.hbm, 207, rfl⟩
abbrev main_v138 : Ref sig .tc := ⟨.hbm, 208, rfl⟩
abbrev main_v139 : Ref sig .tc := ⟨.hbm, 209, rfl⟩
abbrev main_cst_26 : Ref sig .tc := ⟨.hbm, 210, rfl⟩
abbrev main_call6_v0 : Ref sig .tc := ⟨.hbm, 211, rfl⟩
abbrev main_call6_v1 : Ref sig .tc := ⟨.hbm, 212, rfl⟩
abbrev main_v140 : Ref sig .tc := ⟨.hbm, 213, rfl⟩
abbrev main_c_27 : Ref sig .tc := ⟨.hbm, 214, rfl⟩
abbrev main_v141 : Ref sig .tc := ⟨.hbm, 215, rfl⟩
abbrev main_v142 : Ref sig .tc := ⟨.hbm, 216, rfl⟩
abbrev main_c_28 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_cst_29 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_c_30 : Ref sig .tc := ⟨.hbm, 229, rfl⟩
abbrev main_v153 : Ref sig .tc := ⟨.hbm, 230, rfl⟩
abbrev main_v154 : Ref sig .tc := ⟨.hbm, 231, rfl⟩
abbrev main_c_31 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_c_32 : Ref sig .tc := ⟨.hbm, 238, rfl⟩
abbrev main_v160 : Ref sig .tc := ⟨.hbm, 239, rfl⟩
abbrev main_v161 : Ref sig .tc := ⟨.hbm, 240, rfl⟩
abbrev main_c_33 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_cst_34 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_cst_35 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_call7_cst : Ref sig .tc := ⟨.hbm, 265, rfl⟩
abbrev main_call7_v0 : Ref sig .tc := ⟨.hbm, 266, rfl⟩
abbrev main_v183 : Ref sig .tc := ⟨.hbm, 267, rfl⟩
abbrev main_cst_36 : Ref sig .tc := ⟨.hbm, 268, rfl⟩
abbrev main_v184 : Ref sig .tc := ⟨.hbm, 269, rfl⟩
abbrev main_cst_37 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩

abbrev nD : Nat := 1
abbrev τ : Topo := Topo.v7x

variable {F : FTy → Type} [FloatOps F]
-- ==== Proof.KernelRun.lean ====
/- The run of the kernel's program, with the final contents of every buffer named. -/
module

public import proofs.«01_k».proof.Proof.Gen.KernelIdeal.Frame

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair run of the kernel's program ends, and at the end every buffer that outlives the run holds what the
    last segment leaves in it (`W20`). -/
theorem run : θ_run defs (onTc (τ := τ) (main (F := F))) ⟨m, fun _ => 0, ρ⟩
    (fun r => ∀ c : Dev nD, ∀ b ∈ Pipeline.ucRefs τ sig, r.2.mem ((c : Thread nD τ).1, b) = W20 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h _ => h)

end Cert.KernelIdeal.Layer
-- ==== Proof.Agree.lean ====
/- The kernel's launch memory and the reference's launch contents agree on the arguments. -/
module

public import proofs.«01_k».proof.KernelIdeal
public import proofs.«01_k».proof.ReferenceIdeal
public import Idealize.ShloMosaic.PureOps.Ideal

@[expose] public section

set_option maxRecDepth 16384

noncomputable section

namespace Cert.KernelIdeal.Layer

open Idealize.ShloMosaic Idealize.ShloMosaic.TcCoe Idealize.ShloMosaic.StableHlo
open Cert.KernelIdeal

/-- The kernel's launch memory `m`, on device `c`, and the reference's launch contents `R` hold the same nineteen arguments. -/
def Agree (m : (ℓ : Loc nD τ sig) → Buf (Elt Ideal) ℓ) (c : Dev nD)
    (R : Valuation Cert.ReferenceIdeal.τ Cert.ReferenceIdeal.sig (Elt Ideal)) : Prop :=
  @Eq (FVec Ideal S10000x256 .f32) (R (Proc.devRef .tc Cert.ReferenceIdeal.main_arg0)) (m ((c : Thread nD τ).loc main_arg0))
  ∧ @Eq (IVec S2x160000 32) (R (Proc.devRef .tc Cert.ReferenceIdeal.main_arg1)) (m ((c : Thread nD τ).loc main_arg1))
  ∧ @Eq (FVec Ideal S160000x16 .f32) (R (Proc.devRef .tc Cert.ReferenceIdeal.main_arg2)) (m ((c : Thread nD τ).loc main_arg2))
  ∧ @Eq (FVec Ideal S256x1024 .f32) (R (Proc.devRef .tc Cert.ReferenceIdeal.main_arg3)) (m ((c : Thread nD τ).loc main_arg3))
  ∧ @Eq (FVec Ideal S1024 .f32) (R (Proc.devRef .tc Cert.ReferenceIdeal.main_arg4)) (m ((c : Thread nD τ).loc main_arg4))
  ∧ @Eq (FVec Ideal S256x1024 .f32) (R (Proc.devRef .tc Cert.ReferenceIdeal.main_arg5)) (m ((c : Thread nD τ).loc main_arg5))
  ∧ @Eq (FVec Ideal S1024 .f32) (R (Proc.devRef .tc Cert.ReferenceIdeal.main_arg6)) (m ((c : Thread nD τ).loc main_arg6))
  ∧ @Eq (FVec Ideal S16x1024 .f32) (R (Proc.devRef .tc Cert.ReferenceIdeal.main_arg7)) (m ((c : Thread nD τ).loc main_arg7))
  ∧ @Eq (FVec Ideal S4x256 .f32) (R (Proc.devRef .tc Cert.ReferenceIdeal.main_arg8)) (m ((c : Thread nD τ).loc main_arg8))
  ∧ @Eq (FVec Ideal S1024 .f32) (R (Proc.devRef .tc Cert.ReferenceIdeal.main_arg9)) (m ((c : Thread nD τ).loc main_arg9))
  ∧ @Eq (FVec Ideal S1024x256 .f32) (R (Proc.devRef .tc Cert.ReferenceIdeal.main_arg10)) (m ((c : Thread nD τ).loc main_arg10))
  ∧ @Eq (FVec Ideal S256 .f32) (R (Proc.devRef .tc Cert.ReferenceIdeal.main_arg11)) (m ((c : Thread nD τ).loc main_arg11))
  ∧ @Eq (FVec Ideal S1024x256 .f32) (R (Proc.devRef .tc Cert.ReferenceIdeal.main_arg12)) (m ((c : Thread nD τ).loc main_arg12))
  ∧ @Eq (FVec Ideal S256 .f32) (R (Proc.devRef .tc Cert.ReferenceIdeal.main_arg13)) (m ((c : Thread nD τ).loc main_arg13))
  ∧ @Eq (FVec Ideal S16x256 .f32) (R (Proc.devRef .tc Cert.ReferenceIdeal.main_arg14)) (m ((c : Thread nD τ).loc main_arg14))
  ∧ @Eq (FVec Ideal S1x256 .f32) (R (Proc.devRef .tc Cert.ReferenceIdeal.main_arg15)) (m ((c : Thread nD τ).loc main_arg15))
  ∧ @Eq (FVec Ideal S256 .f32) (R (Proc.devRef .tc Cert.ReferenceIdeal.main_arg16)) (m ((c : Thread nD τ).loc main_arg16))
  ∧ @Eq (FVec Ideal S256x64 .f32) (R (Proc.devRef .tc Cert.ReferenceIdeal.main_arg17)) (m ((c : Thread nD τ).loc main_arg17))
  ∧ @Eq (FVec Ideal S64 .f32) (R (Proc.devRef .tc Cert.ReferenceIdeal.main_arg18)) (m ((c : Thread nD τ).loc main_arg18))

variable {m : (ℓ : Loc nD τ sig) → Buf (Elt Ideal) ℓ} {c : Dev nD}
  {R : Valuation Cert.ReferenceIdeal.τ Cert.ReferenceIdeal.sig (Elt Ideal)} (h : Agree m c R)

namespace Agree

include h

/-- Argument 0 is the same. -/
theorem a0 : @Eq (FVec Ideal S10000x256 .f32) (R (Proc.devRef .tc Cert.ReferenceIdeal.main_arg0)) (m ((c : Thread nD τ).loc main_arg0)) := h.1

/-- Argument 1 is the same. -/
theorem a1 : @Eq (IVec S2x160000 32) (R (Proc.devRef .tc Cert.ReferenceIdeal.main_arg1)) (m ((c : Thread nD τ).loc main_arg1)) := h.2.1

/-- Argument 2 is the same. -/
theorem a2 : @Eq (FVec Ideal S160000x16 .f32) (R (Proc.devRef .tc Cert.ReferenceIdeal.main_arg2)) (m ((c : Thread nD τ).loc main_arg2)) := h.2.2.1

/-- Argument 3 is the same. -/
theorem a3 : @Eq (FVec Ideal S256x1024 .f32) (R (Proc.devRef .tc Cert.ReferenceIdeal.main_arg3)) (m ((c : Thread nD τ).loc main_arg3)) := h.2.2.2.1

/-- Argument 4 is the same. -/
theorem a4 : @Eq (FVec Ideal S1024 .f32) (R (Proc.devRef .tc Cert.ReferenceIdeal.main_arg4)) (m ((c : Thread nD τ).loc main_arg4)) := h.2.2.2.2.1

/-- Argument 5 is the same. -/
theorem a5 : @Eq (FVec Ideal S256x1024 .f32) (R (Proc.devRef .tc Cert.ReferenceIdeal.main_arg5)) (m ((c : Thread nD τ).loc main_arg5)) := h.2.2.2.2.2.1

/-- Argument 6 is the same. -/
theorem a6 : @Eq (FVec Ideal S1024 .f32) (R (Proc.devRef .tc Cert.ReferenceIdeal.main_arg6)) (m ((c : Thread nD τ).loc main_arg6)) := h.2.2.2.2.2.2.1

/-- Argument 7 is the same. -/
theorem a7 : @Eq (FVec Ideal S16x1024 .f32) (R (Proc.devRef .tc Cert.ReferenceIdeal.main_arg7)) (m ((c : Thread nD τ).loc main_arg7)) := h.2.2.2.2.2.2.2.1

/-- Argument 8 is the same. -/
theorem a8 : @Eq (FVec Ideal S4x256 .f32) (R (Proc.devRef .tc Cert.ReferenceIdeal.main_arg8)) (m ((c : Thread nD τ).loc main_arg8)) := h.2.2.2.2.2.2.2.2.1

/-- Argument 9 is the same. -/
theorem a9 : @Eq (FVec Ideal S1024 .f32) (R (Proc.devRef .tc Cert.ReferenceIdeal.main_arg9)) (m ((c : Thread nD τ).loc main_arg9)) := h.2.2.2.2.2.2.2.2.2.1

/-- Argument 10 is the same. -/
theorem a10 : @Eq (FVec Ideal S1024x256 .f32) (R (Proc.devRef .tc Cert.ReferenceIdeal.main_arg10)) (m ((c : Thread nD τ).loc main_arg10)) := h.2.2.2.2.2.2.2.2.2.2.1

/-- Argument 11 is the same. -/
theorem a11 : @Eq (FVec Ideal S256 .f32) (R (Proc.devRef .tc Cert.ReferenceIdeal.main_arg11)) (m ((c : Thread nD τ).loc main_arg11)) := h.2.2.2.2.2.2.2.2.2.2.2.1

/-- Argument 12 is the same. -/
theorem a12 : @Eq (FVec Ideal S1024x256 .f32) (R (Proc.devRef .tc Cert.ReferenceIdeal.main_arg12)) (m ((c : Thread nD τ).loc main_arg12)) := h.2.2.2.2.2.2.2.2.2.2.2.2.1

/-- Argument 13 is the same. -/
theorem a13 : @Eq (FVec Ideal S256 .f32) (R (Proc.devRef .tc Cert.ReferenceIdeal.main_arg13)) (m ((c : Thread nD τ).loc main_arg13)) := h.2.2.2.2.2.2.2.2.2.2.2.2.2.1

/-- Argument 14 is the same. -/
theorem a14 : @Eq (FVec Ideal S16x256 .f32) (R (Proc.devRef .tc Cert.ReferenceIdeal.main_arg14)) (m ((c : Thread nD τ).loc main_arg14)) := h.2.2.2.2.2.2.2.2.2.2.2.2.2.2.1

/-- Argument 15 is the same. -/
theorem a15 : @Eq (FVec Ideal S1x256 .f32) (R (Proc.devRef .tc Cert.ReferenceIdeal.main_arg15)) (m ((c : Thread nD τ).loc main_arg15)) := h.2.2.2.2.2.2.2.2.2.2.2.2.2.2.2.1

/-- Argument 16 is the same. -/
theorem a16 : @Eq (FVec Ideal S256 .f32) (R (Proc.devRef .tc Cert.ReferenceIdeal.main_arg16)) (m ((c : Thread nD τ).loc main_arg16)) := h.2.2.2.2.2.2.2.2.2.2.2.2.2.2.2.2.1

/-- Argument 17 is the same. -/
theorem a17 : @Eq (FVec Ideal S256x64 .f32) (R (Proc.devRef .tc Cert.ReferenceIdeal.main_arg17)) (m ((c : Thread nD τ).loc main_arg17)) := h.2.2.2.2.2.2.2.2.2.2.2.2.2.2.2.2.2.1

/-- Argument 18 is the same. -/
theorem a18 : @Eq (FVec Ideal S64 .f32) (R (Proc.devRef .tc Cert.ReferenceIdeal.main_arg18)) (m ((c : Thread nD τ).loc main_arg18)) := h.2.2.2.2.2.2.2.2.2.2.2.2.2.2.2.2.2.2

end Agree

end Cert.KernelIdeal.Layer
-- ==== Proof.Product.lean ====
/- The product of two matrices of extended reals. -/
module

public import Idealize.ShloMosaic.Lib.MatmulPlain
public import Idealize.ShloMosaic.Lib.Pipeline.ValueKit
public import Idealize.ShloMosaic.Lib.Pointwise

@[expose] public section

noncomputable section

namespace Cert.Proof

open Idealize.ShloMosaic

/-- The matrix product: entry (r, c) is the sum over `k` of `A (r, k) * B (k, c)`. -/
def product {M K N : ℕ} (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

end Cert.Proof
-- ==== Proof.RegionValue.lean ====
/- What each of the kernel's six matrix-product regions leaves in its result array: the product of its two operand arrays. -/
module

public import proofs.«01_k».proof.Proof.Gen.KernelIdeal.Frame
public import proofs.«01_k».proof.Proof.Product

@[expose] public section

set_option maxRecDepth 16384

noncomputable section

namespace Cert.KernelIdeal.Layer

open Idealize.ShloMosaic Idealize.ShloMosaic.TcCoe
open Cert.KernelIdeal Cert.KernelIdeal.Gen Cert.Proof

variable (V : (c : Dev nD) → (b : Ref sig .tc) → Buf (Elt Ideal) ((c : Thread nD τ).loc b))

/-- Region 0 (the first layer's source projection) leaves the product of its two operand arrays. -/
theorem region0 (c : Dev nD) :
    (dat0 V c).arrAt 2 cfg0.N = product (V c main_arg0) (V c main_arg3) := by
  refine (dat0 V c).arrAt_eq_of_covers 2 _ (by decide +kernel) fun t hf y => ?_
  obtain ⟨h0, h1, h2, h3, h4⟩ := (by decide +kernel : ∀ t : Fin cfg0.grid.N,
    win0_0.index t 0 = win0_2.index t 0 ∧ win0_0.index t 1 = 0 ∧ win0_1.index t 0 = 0 ∧
      win0_1.index t 1 = 0 ∧ win0_2.index t 1 = 0) t
  blk_simp
  rw [after0_2]
  frame_out
  unfold k0_pay1 product
  pointwise
  blk_point [iblk0, h0, h1, h2, h3, h4]

/-- Region 1 (the first layer's destination projection) leaves the product of its two operand arrays. -/
theorem region1 (c : Dev nD) :
    (dat1 V c).arrAt 2 cfg1.N = product (V c main_arg0) (V c main_arg5) := by
  refine (dat1 V c).arrAt_eq_of_covers 2 _ (by decide +kernel) fun t hf y => ?_
  obtain ⟨h0, h1, h2, h3, h4⟩ := (by decide +kernel : ∀ t : Fin cfg1.grid.N,
    win1_0.index t 0 = win1_2.index t 0 ∧ win1_0.index t 1 = 0 ∧ win1_1.index t 0 = 0 ∧
      win1_1.index t 1 = 0 ∧ win1_2.index t 1 = 0) t
  blk_simp
  rw [after1_2]
  frame_out
  unfold k1_pay1 product
  pointwise
  blk_point [iblk1, h0, h1, h2, h3, h4]

/-- Region 2 (the first layer's edge projection) leaves the product of its two operand arrays. -/
theorem region2 (c : Dev nD) :
    (dat2 V c).arrAt 2 cfg2.N = product (V c main_arg2) (V c main_arg7) := by
  refine (dat2 V c).arrAt_eq_of_covers 2 _ (by decide +kernel) fun t hf y => ?_
  obtain ⟨h0, h1, h2, h3, h4⟩ := (by decide +kernel : ∀ t : Fin cfg2.grid.N,
    win2_0.index t 0 = win2_2.index t 0 ∧ win2_0.index t 1 = 0 ∧ win2_1.index t 0 = 0 ∧
      win2_1.index t 1 = 0 ∧ win2_2.index t 1 = 0) t
  blk_simp
  rw [after2_2]
  frame_out
  unfold k2_pay1 product
  pointwise
  blk_point [iblk2, h0, h1, h2, h3, h4]

/-- Region 3 (the second layer's source projection) leaves the product of its two operand arrays. -/
theorem region3 (c : Dev nD) :
    (dat3 V c).arrAt 2 cfg3.N = product (V c main_v56) (V c main_arg10) := by
  refine (dat3 V c).arrAt_eq_of_covers 2 _ (by decide +kernel) fun t hf y => ?_
  obtain ⟨h0, h1, h2, h3, h4⟩ := (by decide +kernel : ∀ t : Fin cfg3.grid.N,
    win3_0.index t 0 = win3_2.index t 0 ∧ win3_0.index t 1 = 0 ∧ win3_1.index t 0 = 0 ∧
      win3_1.index t 1 = 0 ∧ win3_2.index t 1 = 0) t
  blk_simp
  rw [after3_2]
  frame_out
  unfold k3_pay1 product
  pointwise
  blk_point [iblk3, h0, h1, h2, h3, h4]

/-- Region 4 (the second layer's destination projection) leaves the product of its two operand arrays. -/
theorem region4 (c : Dev nD) :
    (dat4 V c).arrAt 2 cfg4.N = product (V c main_v56) (V c main_arg12) := by
  refine (dat4 V c).arrAt_eq_of_covers 2 _ (by decide +kernel) fun t hf y => ?_
  obtain ⟨h0, h1, h2, h3, h4⟩ := (by decide +kernel : ∀ t : Fin cfg4.grid.N,
    win4_0.index t 0 = win4_2.index t 0 ∧ win4_0.index t 1 = 0 ∧ win4_1.index t 0 = 0 ∧
      win4_1.index t 1 = 0 ∧ win4_2.index t 1 = 0) t
  blk_simp
  rw [after4_2]
  frame_out
  unfold k4_pay1 product
  pointwise
  blk_point [iblk4, h0, h1, h2, h3, h4]

/-- Region 5 (the second layer's edge projection) leaves the product of its two operand arrays. -/
theorem region5 (c : Dev nD) :
    (dat5 V c).arrAt 2 cfg5.N = product (V c main_arg2) (V c main_arg14) := by
  refine (dat5 V c).arrAt_eq_of_covers 2 _ (by decide +kernel) fun t hf y => ?_
  obtain ⟨h0, h1, h2, h3, h4⟩ := (by decide +kernel : ∀ t : Fin cfg5.grid.N,
    win5_0.index t 0 = win5_2.index t 0 ∧ win5_0.index t 1 = 0 ∧ win5_1.index t 0 = 0 ∧
      win5_1.index t 1 = 0 ∧ win5_2.index t 1 = 0) t
  blk_simp
  rw [after5_2]
  frame_out
  unfold k5_pay1 product
  pointwise
  blk_point [iblk5, h0, h1, h2, h3, h4]

end Cert.KernelIdeal.Layer
-- ==== Proof.Stretches.lean ====
/- What each stretch of the kernel's host operations leaves in the buffers that later steps read, as a term of the buffers'
   contents before it. -/
module

public import proofs.«01_k».proof.Proof.Gen.KernelIdeal.Launch
public import Idealize.ShloMosaic.Lib.StableHlo.Run

@[expose] public section

set_option maxRecDepth 16384

noncomputable section

namespace Cert.KernelIdeal.Layer

open Idealize.ShloMosaic Idealize.ShloMosaic.TcCoe Idealize.ShloMosaic.StableHlo
open Cert.KernelIdeal Cert.KernelIdeal.Gen

variable {F : FTy → Type} [FloatOps F] (V : Valuation τ sig (Elt F))

/-- Each edge's source node: the first row of the edge list. -/
theorem after0_v1 : after hostOps0 V (Proc.devRef .tc main_v1)
    = shapeCast _ (extractStridedSlice S1x160000 ![0, 0] (V (Proc.devRef .tc main_arg1)) slices_S2x160000_S1x160000_0_0) shapeCasts_S1x160000_S160000 := by
  after_results_simp <;> rfl

/-- Each edge's destination node: the second row of the edge list. -/
theorem after0_v3 : after hostOps0 V (Proc.devRef .tc main_v3)
    = shapeCast _ (extractStridedSlice S1x160000 ![1, 0] (V (Proc.devRef .tc main_arg1)) slices_S2x160000_S1x160000_1_0) shapeCasts_S1x160000_S160000 := by
  after_results_simp <;> rfl

/-- The first layer's source projection: the product plus the bias, row by row. -/
theorem after1_v7 : after hostOps1 V (Proc.devRef .tc main_v7)
    = addf (V (Proc.devRef .tc main_v4)) (broadcastInDim S10000x1024 ![0, 1] bcast_S1x1024_S10000x1024_0_1
        (broadcastInDim S1x1024 ![1] bcast_S1024_S1x1024_1 (V (Proc.devRef .tc main_arg4)))) := by
  after_results_simp <;> rfl

/-- The first layer's destination projection: the product plus the bias, row by row. -/
theorem after2_v11 : after hostOps2 V (Proc.devRef .tc main_v11)
    = addf (V (Proc.devRef .tc main_v8)) (broadcastInDim S10000x1024 ![0, 1] bcast_S1x1024_S10000x1024_0_1
        (broadcastInDim S1x1024 ![1] bcast_S1024_S1x1024_1 (V (Proc.devRef .tc main_arg6)))) := by
  after_results_simp <;> rfl

/-- The messages: each edge reads its source's projected row. -/
theorem after3_v22 : after hostOps3 V (Proc.devRef .tc main_v22)
    = Host.gather gather_S10000x4x256_S160000x1_S160000x4x256_12_0_n_n_0_1_14256 (shapeCast _ (V (Proc.devRef .tc main_v7)) shapeCasts_S10000x1024_S10000x4x256)
        (broadcastInDim S160000x1 ![0] bcast_S160000_S160000x1_0 (select (cmpi .slt (V (Proc.devRef .tc main_v1)) (broadcastInDim S160000 ![] bcast_S_S160000 (constantI S_ 32 0#32)))
          (addi (V (Proc.devRef .tc main_v1)) (broadcastInDim S160000 ![] bcast_S_S160000 (constantI S_ 32 10000#32))) (V (Proc.devRef .tc main_v1)))) := by
  after_results_simp <;> rfl

/-- The scores' pre-activation: source row, destination row and edge feature, added. -/
theorem after3_v31 : after hostOps3 V (Proc.devRef .tc main_v31)
    = addf (addf (Host.gather gather_S10000x4x256_S160000x1_S160000x4x256_12_0_n_n_0_1_14256 (shapeCast _ (V (Proc.devRef .tc main_v7)) shapeCasts_S10000x1024_S10000x4x256)
        (broadcastInDim S160000x1 ![0] bcast_S160000_S160000x1_0 (select (cmpi .slt (V (Proc.devRef .tc main_v1)) (broadcastInDim S160000 ![] bcast_S_S160000 (constantI S_ 32 0#32)))
          (addi (V (Proc.devRef .tc main_v1)) (broadcastInDim S160000 ![] bcast_S_S160000 (constantI S_ 32 10000#32))) (V (Proc.devRef .tc main_v1)))))
        (Host.gather gather_S10000x4x256_S160000x1_S160000x4x256_12_0_n_n_0_1_14256 (shapeCast _ (V (Proc.devRef .tc main_v11)) shapeCasts_S10000x1024_S10000x4x256)
        (broadcastInDim S160000x1 ![0] bcast_S160000_S160000x1_0 (select (cmpi .slt (V (Proc.devRef .tc main_v3)) (broadcastInDim S160000 ![] bcast_S_S160000 (constantI S_ 32 0#32)))
          (addi (V (Proc.devRef .tc main_v3)) (broadcastInDim S160000 ![] bcast_S_S160000 (constantI S_ 32 10000#32))) (V (Proc.devRef .tc main_v3))))))
        (shapeCast _ (V (Proc.devRef .tc main_v12)) shapeCasts_S160000x1024_S160000x4x256) := by
  after_results_simp <;> rfl

/-- The slope of the leaky rectifier. -/
theorem after3_cst : after hostOps3 V (Proc.devRef .tc main_cst) = constant S_ .f32 0x3E4CCCCD#32 := by
  after_results_simp <;> rfl

/-- The leaky rectifier. -/
theorem after3_1_v32 : after hostOps3_1 V (Proc.devRef .tc main_v32)
    = select (cmpf .oge (V (Proc.devRef .tc main_v31)) (broadcastInDim S160000x4x256 ![] bcast_S_S160000x4x256 (constant S_ .f32 0x00000000#32)))
        (V (Proc.devRef .tc main_v31))
        (mulf (broadcastInDim S160000x4x256 ![] bcast_S_S160000x4x256 (id (V (Proc.devRef .tc main_cst)))) (V (Proc.devRef .tc main_v31))) := by
  after_results_simp <;> rfl

/-- An edge's logits: the rectified scores against the attention vector, summed over a head's channels. -/
def logits4 (V : Valuation τ sig (Elt F)) : (⟨S160000x4, .f32⟩ : BufTy).Contents (Elt F) :=
  Host.reduceAdd (mulf (V (Proc.devRef .tc main_v32)) (broadcastInDim S160000x4x256 ![0, 1, 2] bcast_S1x4x256_S160000x4x256_0_1_2
    (broadcastInDim S1x4x256 ![1, 2] bcast_S4x256_S1x4x256_1_2 (V (Proc.devRef .tc main_arg8)))))
    (constant S_ .f32 0x00000000#32) reducesTo_S160000x4x256_S160000x4_d2 h_S_

/-- The aggregation: weighted messages summed per node, over the weights summed per node plus the guard; then the bias. -/
theorem after3_2_v55 : after hostOps3_2 V (Proc.devRef .tc main_v55)
    = addf (shapeCast _ (Host.divf
        (Host.scatterAdd scatter_S10000x4x256_S160000x1_S160000x4x256_12_0_0_1
          (broadcastInDim S10000x4x256 ![] bcast_S_S10000x4x256 (constant S_ .f32 0x00000000#32))
          (broadcastInDim S160000x1 ![0] bcast_S160000_S160000x1_0 (V (Proc.devRef .tc main_v3)))
          (mulf (V (Proc.devRef .tc main_v22)) (broadcastInDim S160000x4x256 ![0, 1, 2] bcast_S160000x4x1_S160000x4x256_0_1_2
            (broadcastInDim S160000x4x1 ![0, 1] bcast_S160000x4_S160000x4x1_0_1 (Host.exp (logits4 V))))))
        (broadcastInDim S10000x4x256 ![0, 1, 2] bcast_S10000x4x1_S10000x4x256_0_1_2
          (addf (broadcastInDim S10000x4x1 ![0, 1] bcast_S10000x4_S10000x4x1_0_1
              (Host.scatterAdd scatter_S10000x4_S160000x1_S160000x4_1_0_0_1
                (broadcastInDim S10000x4 ![] bcast_S_S10000x4 (constant S_ .f32 0x00000000#32))
                (broadcastInDim S160000x1 ![0] bcast_S160000_S160000x1_0 (V (Proc.devRef .tc main_v3))) (Host.exp (logits4 V))))
            (broadcastInDim S10000x4x1 ![] bcast_S_S10000x4x1 (constant S_ .f32 0x24E69595#32))))) shapeCasts_S10000x4x256_S10000x1024)
        (broadcastInDim S10000x1024 ![0, 1] bcast_S1x1024_S10000x1024_0_1 (broadcastInDim S1x1024 ![1] bcast_S1024_S1x1024_1 (V (Proc.devRef .tc main_arg9)))) := by
  unfold logits4
  after_results_simp <;> rfl

/-- The rectifier. -/
theorem after3_3_v56 : after hostOps3_3 V (Proc.devRef .tc main_v56)
    = maximumf (V (Proc.devRef .tc main_v55)) (broadcastInDim S10000x1024 ![] bcast_S_S10000x1024 (constant S_ .f32 0x00000000#32)) := by
  after_results_simp <;> rfl

/-- The second layer's source projection: the product plus the bias, row by row. -/
theorem after4_v60 : after hostOps4 V (Proc.devRef .tc main_v60)
    = addf (V (Proc.devRef .tc main_v57)) (broadcastInDim S10000x256 ![0, 1] bcast_S1x256_S10000x256_0_1
        (broadcastInDim S1x256 ![1] bcast_S256_S1x256_1 (V (Proc.devRef .tc main_arg11)))) := by
  after_results_simp <;> rfl

/-- The second layer's destination projection: the product plus the bias, row by row. -/
theorem after5_v64 : after hostOps5 V (Proc.devRef .tc main_v64)
    = addf (V (Proc.devRef .tc main_v61)) (broadcastInDim S10000x256 ![0, 1] bcast_S1x256_S10000x256_0_1
        (broadcastInDim S1x256 ![1] bcast_S256_S1x256_1 (V (Proc.devRef .tc main_arg13)))) := by
  after_results_simp <;> rfl

/-- The messages: each edge reads its source's projected row. -/
theorem after6_v75 : after hostOps6 V (Proc.devRef .tc main_v75)
    = Host.gather gather_S10000x1x256_S160000x1_S160000x1x256_12_0_n_n_0_1_11256 (shapeCast _ (V (Proc.devRef .tc main_v60)) shapeCasts_S10000x256_S10000x1x256)
        (broadcastInDim S160000x1 ![0] bcast_S160000_S160000x1_0 (select (cmpi .slt (V (Proc.devRef .tc main_v1)) (broadcastInDim S160000 ![] bcast_S_S160000 (constantI S_ 32 0#32)))
          (addi (V (Proc.devRef .tc main_v1)) (broadcastInDim S160000 ![] bcast_S_S160000 (constantI S_ 32 10000#32))) (V (Proc.devRef .tc main_v1)))) := by
  after_results_simp <;> rfl

/-- The scores' pre-activation: source row, destination row and edge feature, added. -/
theorem after6_v84 : after hostOps6 V (Proc.devRef .tc main_v84)
    = addf (addf (Host.gather gather_S10000x1x256_S160000x1_S160000x1x256_12_0_n_n_0_1_11256 (shapeCast _ (V (Proc.devRef .tc main_v60)) shapeCasts_S10000x256_S10000x1x256)
        (broadcastInDim S160000x1 ![0] bcast_S160000_S160000x1_0 (select (cmpi .slt (V (Proc.devRef .tc main_v1)) (broadcastInDim S160000 ![] bcast_S_S160000 (constantI S_ 32 0#32)))
          (addi (V (Proc.devRef .tc main_v1)) (broadcastInDim S160000 ![] bcast_S_S160000 (constantI S_ 32 10000#32))) (V (Proc.devRef .tc main_v1)))))
        (Host.gather gather_S10000x1x256_S160000x1_S160000x1x256_12_0_n_n_0_1_11256 (shapeCast _ (V (Proc.devRef .tc main_v64)) shapeCasts_S10000x256_S10000x1x256)
        (broadcastInDim S160000x1 ![0] bcast_S160000_S160000x1_0 (select (cmpi .slt (V (Proc.devRef .tc main_v3)) (broadcastInDim S160000 ![] bcast_S_S160000 (constantI S_ 32 0#32)))
          (addi (V (Proc.devRef .tc main_v3)) (broadcastInDim S160000 ![] bcast_S_S160000 (constantI S_ 32 10000#32))) (V (Proc.devRef .tc main_v3))))))
        (shapeCast _ (V (Proc.devRef .tc main_v65)) shapeCasts_S160000x256_S160000x1x256) := by
  after_results_simp <;> rfl

/-- The slope of the leaky rectifier. -/
theorem after6_cst_11 : after hostOps6 V (Proc.devRef .tc main_cst_11) = constant S_ .f32 0x3E4CCCCD#32 := by
  after_results_simp <;> rfl

/-- The leaky rectifier. -/
theorem after6_1_v85 : after hostOps6_1 V (Proc.devRef .tc main_v85)
    = select (cmpf .oge (V (Proc.devRef .tc main_v84)) (broadcastInDim S160000x1x256 ![] bcast_S_S160000x1x256 (constant S_ .f32 0x00000000#32)))
        (V (Proc.devRef .tc main_v84))
        (mulf (broadcastInDim S160000x1x256 ![] bcast_S_S160000x1x256 (id (V (Proc.devRef .tc main_cst_11)))) (V (Proc.devRef .tc main_v84))) := by
  after_results_simp <;> rfl

/-- An edge's logits: the rectified scores against the attention vector, summed over a head's channels. -/
def logits1 (V : Valuation τ sig (Elt F)) : (⟨S160000x1, .f32⟩ : BufTy).Contents (Elt F) :=
  Host.reduceAdd (mulf (V (Proc.devRef .tc main_v85)) (broadcastInDim S160000x1x256 ![0, 1, 2] bcast_S1x1x256_S160000x1x256_0_1_2
    (broadcastInDim S1x1x256 ![1, 2] bcast_S1x256_S1x1x256_1_2 (V (Proc.devRef .tc main_arg15)))))
    (constant S_ .f32 0x00000000#32) reducesTo_S160000x1x256_S160000x1_d2 h_S_

/-- The aggregation: weighted messages summed per node, over the weights summed per node plus the guard; then the bias. -/
theorem after6_2_v108 : after hostOps6_2 V (Proc.devRef .tc main_v108)
    = addf (shapeCast _ (Host.divf
        (Host.scatterAdd scatter_S10000x1x256_S160000x1_S160000x1x256_12_0_0_1
          (broadcastInDim S10000x1x256 ![] bcast_S_S10000x1x256 (constant S_ .f32 0x00000000#32))
          (broadcastInDim S160000x1 ![0] bcast_S160000_S160000x1_0 (V (Proc.devRef .tc main_v3)))
          (mulf (V (Proc.devRef .tc main_v75)) (broadcastInDim S160000x1x256 ![0, 1, 2] bcast_S160000x1x1_S160000x1x256_0_1_2
            (broadcastInDim S160000x1x1 ![0, 1] bcast_S160000x1_S160000x1x1_0_1 (Host.exp (logits1 V))))))
        (broadcastInDim S10000x1x256 ![0, 1, 2] bcast_S10000x1x1_S10000x1x256_0_1_2
          (addf (broadcastInDim S10000x1x1 ![0, 1] bcast_S10000x1_S10000x1x1_0_1
              (Host.scatterAdd scatter_S10000x1_S160000x1_S160000x1_1_0_0_1
                (broadcastInDim S10000x1 ![] bcast_S_S10000x1 (constant S_ .f32 0x00000000#32))
                (broadcastInDim S160000x1 ![0] bcast_S160000_S160000x1_0 (V (Proc.devRef .tc main_v3))) (Host.exp (logits1 V))))
            (broadcastInDim S10000x1x1 ![] bcast_S_S10000x1x1 (constant S_ .f32 0x24E69595#32))))) shapeCasts_S10000x1x256_S10000x256)
        (broadcastInDim S10000x256 ![0, 1] bcast_S1x256_S10000x256_0_1 (broadcastInDim S1x256 ![1] bcast_S256_S1x256_1 (V (Proc.devRef .tc main_arg16)))) := by
  unfold logits1
  after_results_simp <;> rfl

/-- The rectifier. -/
theorem after6_3_v109 : after hostOps6_3 V (Proc.devRef .tc main_v109)
    = maximumf (V (Proc.devRef .tc main_v108)) (broadcastInDim S10000x256 ![] bcast_S_S10000x256 (constant S_ .f32 0x00000000#32)) := by
  after_results_simp <;> rfl

/-- The readout: the mean over the nodes, projected, plus the bias. -/
theorem after6_4_v114 : after hostOps6_4 V (Proc.devRef .tc main_v114)
    = addf (Host.dotGeneral dot_S256_S256x64_S64_0_0_n_1_n_n none (Host.divf
        (Host.reduceAdd (V (Proc.devRef .tc main_v109)) (constant S_ .f32 0x00000000#32) reducesTo_S10000x256_S256_d0 h_S_)
        (broadcastInDim S256 ![] bcast_S_S256 (constant S_ .f32 0x461C4000#32))) (V (Proc.devRef .tc main_arg17)))
        (V (Proc.devRef .tc main_arg18)) := by
  after_results_simp <;> rfl

end Cert.KernelIdeal.Layer
-- ==== Proof.Softmax.lean ====
/- The softmax over the edges that enter a node, over the extended reals: taking the exponentials as they are and dividing
   the weighted sum once per node is the same as shifting every logit by a finite number per node and dividing every edge's
   weight. -/
module

public import Idealize.ShloMosaic.PureOps.Ideal

@[expose] public section

namespace Cert.Proof

open Idealize.ShloMosaic

/-- The exponential is not negative. -/
theorem exp_nonneg (x : EReal) : 0 ≤ Ideal.exp x := by
  induction x with
  | bot => simp
  | top => simp
  | coe r => rw [Ideal.exp_coe]; exact_mod_cast (Real.exp_pos r).le

/-- The exponential of a logit less a real is the exponential times that of the real's negative, at the infinities too. -/
theorem exp_sub_real (x : EReal) (r : ℝ) : Ideal.exp (x - r) = Ideal.exp x * (Real.exp (-r) : EReal) := by
  induction x with
  | bot => simp
  | top =>
    rw [EReal.top_sub_coe, Ideal.exp_top, EReal.top_mul_coe_of_pos (Real.exp_pos _)]
  | coe y =>
    rw [← EReal.coe_sub, Ideal.exp_coe, Ideal.exp_coe, ← EReal.coe_mul, ← Real.exp_add, sub_eq_add_neg]

/-- A factor that is neither negative nor infinite comes out of a sum. -/
theorem sum_mul_finite {ι : Type*} (s : Finset ι) (f : ι → EReal) (c : EReal) (h0 : 0 ≤ c) (ht : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top h0 ht]

/-- Division by a positive extended real is the product with its inverse, which is neither negative nor infinite. -/
theorem inv_of_pos {T : EReal} (h : 0 < T) : 0 ≤ T⁻¹ ∧ T⁻¹ ≠ ⊤ := by
  induction T with
  | bot => simp at h
  | top => simp
  | coe r =>
    rw [← EReal.coe_inv]
    have hr : 0 < r := by exact_mod_cast h
    exact ⟨by exact_mod_cast (inv_pos.2 hr).le, EReal.coe_ne_top _⟩

/-- A common positive real factor of numerator and denominator drops out of the ideal division. -/
theorem div_scale (x T : EReal) (hT : 0 < T) (s : ℝ) (hs : 0 < s) :
    Ideal.div (x * (s : EReal)) (T * (s : EReal)) = x * T⁻¹ := by
  have hs' : (0 : EReal) < s := by exact_mod_cast hs
  have hne : T * (s : EReal) ≠ 0 := (EReal.mul_pos hT hs').ne'
  have hss : (s : EReal) * (s : EReal)⁻¹ = 1 := by
    rw [← EReal.coe_inv, ← EReal.coe_mul, mul_inv_cancel₀ hs.ne', EReal.coe_one]
  rw [Ideal.div, if_neg hne, EReal.mul_inv, mul_assoc, mul_left_comm (s : EReal), hss, mul_one]

/-- THE LAW OF THE LAYER. `U` indexes the messages, `P` the logits, `Y` the results, `Q` the normalisers; message `u` has
    logit `π u` and lands at `rN u` (nowhere if `none`), logit `p` adds to the normaliser `rD p`, result `y` has normaliser
    `κ y`, and `g p` is the normaliser that logit `p` reads. What lands at a result reads that result's normaliser (`hN`),
    what adds to a normaliser reads it (`hD`). Then the sum of the messages weighted by the exponentials of their logits,
    divided by the normaliser plus a positive real guard, is the sum of the messages each weighted by its share: the
    exponential of its logit less a finite shift per normaliser, over the normaliser of the shifted exponentials plus the
    guard times the exponential of the shift's negative. Messages and logits are any extended reals. -/
theorem shifted_softmax {U P Y Q : Type*} [Fintype U] [Fintype P] [DecidableEq Y] [DecidableEq Q]
    (π : U → P) (κ : Y → Q) (rN : U → Option Y) (rD : P → Option Q) (g : P → Q)
    (hN : ∀ u y, rN u = some y → g (π u) = κ y) (hD : ∀ p q, rD p = some q → g p = q)
    (X : U → EReal) (α : P → EReal) (a : Q → EReal) (ha : ∀ q, ∃ r : ℝ, a q = r)
    (z ε : EReal) (hz : z = 0) (hε : ∃ e : ℝ, 0 < e ∧ ε = e) (y : Y) :
    Ideal.div (z + ∑ u ∈ Finset.univ.filter (fun u => rN u = some y), X u * Ideal.exp (α (π u)))
        ((z + ∑ p ∈ Finset.univ.filter (fun p => rD p = some (κ y)), Ideal.exp (α p)) + ε)
      = z + ∑ u ∈ Finset.univ.filter (fun u => rN u = some y),
          X u * Ideal.div (Ideal.exp (α (π u) - a (g (π u))))
            ((z + ∑ p ∈ Finset.univ.filter (fun p => rD p = some (g (π u))), Ideal.exp (α p - a (g p)))
              + ε * Ideal.exp (-(a (g (π u))))) := by
  obtain ⟨e, he, rfl⟩ := hε
  obtain ⟨r, hr⟩ := ha (κ y)
  subst hz
  simp only [zero_add]
  have hs : 0 < Real.exp (-r) := Real.exp_pos _
  have hs0 : (0 : EReal) ≤ (Real.exp (-r) : EReal) := by exact_mod_cast hs.le
  have he0 : (0 : EReal) < (e : EReal) := by exact_mod_cast he
  have hD0 : 0 ≤ ∑ p ∈ Finset.univ.filter (fun p => rD p = some (κ y)), Ideal.exp (α p) :=
    Finset.sum_nonneg fun p _ => exp_nonneg _
  have hshift : ∑ p ∈ Finset.univ.filter (fun p => rD p = some (κ y)), Ideal.exp (α p - a (g p))
      = (∑ p ∈ Finset.univ.filter (fun p => rD p = some (κ y)), Ideal.exp (α p)) * (Real.exp (-r) : EReal) := by
    rw [← sum_mul_finite _ _ _ hs0 (EReal.coe_ne_top _)]
    refine Finset.sum_congr rfl fun p hp => ?_
    rw [hD p _ (Finset.mem_filter.1 hp).2, hr, exp_sub_real]
  generalize hDdef : ∑ p ∈ Finset.univ.filter (fun p => rD p = some (κ y)), Ideal.exp (α p) = D at hD0 hshift ⊢
  have hT : 0 < D + (e : EReal) := lt_of_lt_of_le he0 (le_add_of_nonneg_left hD0)
  have hi := inv_of_pos hT
  rw [Ideal.div, if_neg hT.ne', ← sum_mul_finite _ _ _ hi.1 hi.2]
  refine Finset.sum_congr rfl fun u hu => ?_
  rw [hN u y (Finset.mem_filter.1 hu).2, hr, hshift, ← EReal.coe_neg, Ideal.exp_coe, exp_sub_real,
    ← EReal.right_distrib_of_nonneg_of_ne_top hs0 (EReal.coe_ne_top _), div_scale _ _ hT _ hs, mul_assoc]

end Cert.Proof
-- ==== Proof.Landing.lean ====
/- Where the layer's scatters land and what its gathers read: a scatter of edge rows drops what its index word sends
   outside, and a gather of rows clamps; where a scatter lands, the gather with the same index word, negative ones wrapped
   first, reads the row landed at. -/
module

public import Idealize.ShloMosaic.Lib.Routing.OpsPair
public import Idealize.ShloMosaic.Lib.Pointwise

@[expose] public section

namespace Cert.Proof

open Idealize.ShloMosaic Idealize.ShloMosaic.Routing

/-- The row and column at which an update of a scatter of [E, H, C] rows into [N, H, C] lands, when it lands: the row is the
    update's index word read signed. -/
theorem lands3 {N E H C : ℕ} (d : ScatterDims ⟨3, ![N, H, C]⟩ ⟨2, ![E, 1]⟩ ⟨3, ![E, H, C]⟩)
    (huw : d.updateWindowDims = [1, 2]) (hiw : d.insertedWindowDims = [0]) (hsd : d.scatterDimsToOperandDims = [0])
    (hiv : d.indexVectorDim = 1) (idx : IVec ⟨2, ![E, 1]⟩ 32) (u : (⟨3, ![E, H, C]⟩ : Shape).Idx)
    (y : (⟨3, ![N, H, C]⟩ : Shape).Idx) (h : d.resultIdx? u idx = some y) :
    (idx (ix2 (u 0) 0)).toInt = (y 0).val ∧ (u 1).val = (y 1).val := by
  rw [resultIdx?_eq_some] at h
  obtain ⟨uw, iw, sd, iv, wf⟩ := d
  dsimp only at huw hiw hsd hiv
  subst huw hiw hsd hiv
  have h0 := h 0
  have h1 := h 1
  have e0 : ScatterDims.start ⟨[1, 2], [0], [0], 1, wf⟩ u idx 0 = (idx (ix2 (u 0) 0)).toInt := by
    unfold ScatterDims.start
    rw [dif_pos (List.mem_singleton.2 rfl)]
    congr 2
    funext b
    fin_cases b
    · rfl
    · rfl
  have e1 : ScatterDims.start ⟨[1, 2], [0], [0], 1, wf⟩ u idx 1 = 0 := by
    unfold ScatterDims.start
    rw [dif_neg fun q => absurd (List.mem_singleton.1 q) (by simp)]
  have w0 : ScatterDims.window ⟨[1, 2], [0], [0], 1, wf⟩ u 0 = 0 := rfl
  have w1 : ScatterDims.window ⟨[1, 2], [0], [0], 1, wf⟩ u 1 = (u 1).val := rfl
  rw [e0, w0] at h0
  rw [e1, w1] at h1
  omega

/-- The same for a scatter of [E, H] rows into [N, H]. -/
theorem lands2 {N E H : ℕ} (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hiv : d.indexVectorDim = 1) (idx : IVec ⟨2, ![E, 1]⟩ 32) (u : (⟨2, ![E, H]⟩ : Shape).Idx)
    (y : (⟨2, ![N, H]⟩ : Shape).Idx) (h : d.resultIdx? u idx = some y) :
    (idx (ix2 (u 0) 0)).toInt = (y 0).val ∧ (u 1).val = (y 1).val := by
  rw [resultIdx?_eq_some] at h
  obtain ⟨uw, iw, sd, iv, wf⟩ := d
  dsimp only at huw hiw hsd hiv
  subst huw hiw hsd hiv
  have h0 := h 0
  have h1 := h 1
  have e0 : ScatterDims.start ⟨[1], [0], [0], 1, wf⟩ u idx 0 = (idx (ix2 (u 0) 0)).toInt := by
    unfold ScatterDims.start
    rw [dif_pos (List.mem_singleton.2 rfl)]
    congr 2
    funext b
    fin_cases b
    · rfl
    · rfl
  have e1 : ScatterDims.start ⟨[1], [0], [0], 1, wf⟩ u idx 1 = 0 := by
    unfold ScatterDims.start
    rw [dif_neg fun q => absurd (List.mem_singleton.1 q) (by simp)]
  have w0 : ScatterDims.window ⟨[1], [0], [0], 1, wf⟩ u 0 = 0 := rfl
  have w1 : ScatterDims.window ⟨[1], [0], [0], 1, wf⟩ u 1 = (u 1).val := rfl
  rw [e0, w0] at h0
  rw [e1, w1] at h1
  omega

/-- The entry of [N, H] that entry `p` of a gather of rows [E, H] reads: its own column, and the row its index word names,
    read signed and clamped. -/
theorem reads2 {N E H : ℕ} (d : GatherDims ⟨2, ![N, H]⟩ ⟨2, ![E, 1]⟩ ⟨2, ![E, H]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, H]) (idx : IVec ⟨2, ![E, 1]⟩ 32) (p : (⟨2, ![E, H]⟩ : Shape).Idx) :
    (d.operandIdx p idx 0).val = min (idx (ix2 (p 0) 0)).toInt.toNat (N - 1) ∧
      (d.operandIdx p idx 1).val = (p 1).val := by
  obtain ⟨od, cd, ob, sb, sm, iv, ss, wf⟩ := d
  dsimp only at hod hcd hob hsb hsm hiv hss
  subst hod hcd hob hsb hsm hiv hss
  constructor
  · have e0 : GatherDims.start (s := ⟨2, ![N, H]⟩) ⟨[1], [0], [], [], [0], 1, ![1, H], wf⟩ p idx 0
        = min (idx (ix2 (p 0) 0)).toInt.toNat (N - 1) := by
      unfold GatherDims.start
      rw [dif_pos (List.mem_singleton.2 rfl)]
      congr 4
      funext b
      fin_cases b
      · rfl
      · rfl
    rw [← e0]; rfl
  · have e1 : GatherDims.start (s := ⟨2, ![N, H]⟩) ⟨[1], [0], [], [], [0], 1, ![1, H], wf⟩ p idx 1 = 0 := by
      unfold GatherDims.start
      rw [dif_neg fun q => absurd (List.mem_singleton.1 q) (by simp)]
    show GatherDims.start (s := ⟨2, ![N, H]⟩) ⟨[1], [0], [], [], [0], 1, ![1, H], wf⟩ p idx 1 + 0 + (p 1).val = (p 1).val
    rw [e1]; omega

/-- An index word that is not negative is left as it is by the wrap that adds the number of rows to a negative one. -/
theorem wrap_of_nonneg (x n : BitVec 32) (h : 0 ≤ x.toInt) :
    Scalar.select (IntOp.cmpi .slt x 0#32) (IntOp.addi x n) x = x :=
  wrap_of_lt x _ (by
    have := x.isLt
    have e := BitVec.toInt_eq_toNat_cond x
    by_cases hx : 2 * x.toNat < 2 ^ 32
    · omega
    · rw [if_neg hx] at e; omega)

end Cert.Proof
-- ==== Proof.Layer.lean ====
/- One attention layer's last steps, over whole arrays: the kernel's arrangement (unshifted exponentials, one division per
   node) and the reference's (exponentials shifted per node, one division per edge) leave the same array. -/
module

public import proofs.«01_k».proof.Proof.Softmax
public import proofs.«01_k».proof.Proof.Landing

@[expose] public section

noncomputable section

namespace Cert.Proof

open Idealize.ShloMosaic

/-- The zero word denotes zero. -/
theorem zero_word : Ideal.ofBits .f32 0x00000000#32 = 0 := by simp [Ideal.ofBits, Ideal.ieee]

/-- The guard's word denotes a positive real. -/
theorem guard_word : ∃ e : ℝ, 0 < e ∧ Ideal.ofBits .f32 0x24E69595#32 = e := by
  simp only [Ideal.ofBits, Ideal.ieee]
  refine ⟨_, ?_, rfl⟩
  rw [if_neg (by decide)]
  positivity

/-- A shift masked to where its magnitude is below infinity, zero elsewhere, is a real at every entry. -/
theorem masked_shift_finite {s : Shape} (hb hb' : (⟨0, ![]⟩ : Shape).BroadcastsInDim s ![]) (M : FVec Ideal s .f32) (q : s.Idx) :
    ∃ r : ℝ, select (cmpf .olt (Host.absf M) (broadcastInDim s ![] hb (constant ⟨0, ![]⟩ .f32 0x7F800000#32))) M
      (broadcastInDim s ![] hb' (id (constant (F := Ideal) ⟨0, ![]⟩ .f32 0x00000000#32))) q = r := by
  have htop : Ideal.ofBits .f32 0x7F800000#32 = ⊤ := by simp [Ideal.ofBits, Ideal.ieee]
  have hsel : select (cmpf .olt (Host.absf M) (broadcastInDim s ![] hb (constant ⟨0, ![]⟩ .f32 0x7F800000#32))) M
      (broadcastInDim s ![] hb' (id (constant (F := Ideal) ⟨0, ![]⟩ .f32 0x00000000#32))) q
      = Scalar.select (Ideal.cmp .olt (max (M q) (-(M q))) (Ideal.ofBits .f32 0x7F800000#32)) (M q) (Ideal.ofBits .f32 0x00000000#32) := rfl
  rw [hsel, htop, zero_word]
  simp only [Scalar.select, Ideal.cmp]
  generalize (M q : EReal) = v
  induction v using EReal.rec with
  | bot => exact ⟨0, by simp⟩
  | top => exact ⟨0, by simp⟩
  | coe x =>
    by_cases h : max (x : EReal) (-(x : EReal)) < ⊤
    · exact ⟨x, by simp [h]⟩
    · exact ⟨0, by simp [h]⟩

/-- A rank-2 array spread over a third axis, by way of a unit axis: entry `u` reads it at `u`'s two first coordinates. -/
theorem spread {A B C : ℕ} {β : Type} (h : (⟨2, ![A, B]⟩ : Shape).BroadcastsInDim ⟨3, ![A, B, 1]⟩ ![0, 1])
    (h' : (⟨3, ![A, B, 1]⟩ : Shape).BroadcastsInDim ⟨3, ![A, B, C]⟩ ![0, 1, 2]) (x : (⟨2, ![A, B]⟩ : Shape).Idx → β)
    (u : (⟨3, ![A, B, C]⟩ : Shape).Idx) :
    broadcastInDim ⟨3, ![A, B, C]⟩ ![0, 1, 2] h' (broadcastInDim ⟨3, ![A, B, 1]⟩ ![0, 1] h x) u = x (ix2 (u 0) (u 1)) := by
  have h0 : (u 0).val < A := (u 0).isLt
  have h1 : (u 1).val < B := (u 1).isLt
  unfold broadcastInDim
  refine congrArg x (funext fun b => ?_)
  fin_cases b
  · apply Fin.ext
    by_cases hA : A = 1
    · simp [hA, ix2]; omega
    · simp [hA, ix2]
  · apply Fin.ext
    by_cases hB : B = 1
    · simp [hB, ix2]; omega
    · simp [hB, ix2]

/-- THE LAYER. `X` holds the messages [E, H, C], `α` the logits [E, H], `a` a finite shift per node [N, H], `dst` each
    edge's node. -/
theorem layer {N E H C : ℕ}
    (d3 : ScatterDims ⟨3, ![N, H, C]⟩ ⟨2, ![E, 1]⟩ ⟨3, ![E, H, C]⟩)
    (huw3 : d3.updateWindowDims = [1, 2]) (hiw3 : d3.insertedWindowDims = [0]) (hsd3 : d3.scatterDimsToOperandDims = [0])
    (hiv3 : d3.indexVectorDim = 1)
    (d2 : ScatterDims ⟨2, ![N, H]⟩ ⟨2, ![E, 1]⟩ ⟨2, ![E, H]⟩)
    (huw2 : d2.updateWindowDims = [1]) (hiw2 : d2.insertedWindowDims = [0]) (hsd2 : d2.scatterDimsToOperandDims = [0])
    (hiv2 : d2.indexVectorDim = 1)
    (gd : GatherDims ⟨2, ![N, H]⟩ ⟨2, ![E, 1]⟩ ⟨2, ![E, H]⟩)
    (hod : gd.offsetDims = [1]) (hcd : gd.collapsedSliceDims = [0]) (hob : gd.operandBatchingDims = [])
    (hsb : gd.startIndicesBatchingDims = []) (hsm : gd.startIndexMap = [0]) (hiv : gd.indexVectorDim = 1)
    (hss : gd.sliceSizes = ![1, H])
    (b1 : (⟨0, ![]⟩ : Shape).BroadcastsInDim ⟨3, ![N, H, C]⟩ ![]) (b2 : (⟨1, ![E]⟩ : Shape).BroadcastsInDim ⟨2, ![E, 1]⟩ ![0])
    (b3 : (⟨2, ![E, H]⟩ : Shape).BroadcastsInDim ⟨3, ![E, H, 1]⟩ ![0, 1])
    (b4 : (⟨3, ![E, H, 1]⟩ : Shape).BroadcastsInDim ⟨3, ![E, H, C]⟩ ![0, 1, 2])
    (b5 : (⟨0, ![]⟩ : Shape).BroadcastsInDim ⟨2, ![N, H]⟩ ![])
    (b6 : (⟨2, ![N, H]⟩ : Shape).BroadcastsInDim ⟨3, ![N, H, 1]⟩ ![0, 1])
    (b7 : (⟨0, ![]⟩ : Shape).BroadcastsInDim ⟨3, ![N, H, 1]⟩ ![])
    (b8 : (⟨3, ![N, H, 1]⟩ : Shape).BroadcastsInDim ⟨3, ![N, H, C]⟩ ![0, 1, 2])
    (b9 : (⟨0, ![]⟩ : Shape).BroadcastsInDim ⟨2, ![E, H]⟩ ![]) (b10 : (⟨0, ![]⟩ : Shape).BroadcastsInDim ⟨1, ![E]⟩ ![])
    (X : FVec Ideal ⟨3, ![E, H, C]⟩ .f32) (α : FVec Ideal ⟨2, ![E, H]⟩ .f32) (a : FVec Ideal ⟨2, ![N, H]⟩ .f32)
    (ha : ∀ q, ∃ r : ℝ, a q = r) (dst : IVec ⟨1, ![E]⟩ 32) (n : BitVec 32)
    (raw wrapped : IVec ⟨2, ![E, 1]⟩ 32) (hraw : raw = broadcastInDim ⟨2, ![E, 1]⟩ ![0] b2 dst)
    (hwrapped : wrapped = broadcastInDim ⟨2, ![E, 1]⟩ ![0] b2 (select (cmpi .slt dst (broadcastInDim ⟨1, ![E]⟩ ![] b10 (constantI ⟨0, ![]⟩ 32 0#32)))
      (addi dst (broadcastInDim ⟨1, ![E]⟩ ![] b10 (constantI ⟨0, ![]⟩ 32 n))) dst))
    (t : FVec Ideal ⟨2, ![E, H]⟩ .f32) (ht : t = Host.exp (subf α (Host.gather gd a wrapped))) :
    Host.divf (Host.scatterAdd d3 (broadcastInDim ⟨3, ![N, H, C]⟩ ![] b1 (constant ⟨0, ![]⟩ .f32 0x00000000#32)) raw
        (mulf X (broadcastInDim ⟨3, ![E, H, C]⟩ ![0, 1, 2] b4 (broadcastInDim ⟨3, ![E, H, 1]⟩ ![0, 1] b3 (Host.exp α)))))
      (broadcastInDim ⟨3, ![N, H, C]⟩ ![0, 1, 2] b8 (addf (broadcastInDim ⟨3, ![N, H, 1]⟩ ![0, 1] b6
          (Host.scatterAdd d2 (broadcastInDim ⟨2, ![N, H]⟩ ![] b5 (constant ⟨0, ![]⟩ .f32 0x00000000#32)) raw (Host.exp α)))
        (broadcastInDim ⟨3, ![N, H, 1]⟩ ![] b7 (constant ⟨0, ![]⟩ .f32 0x24E69595#32))))
    = Host.scatterAdd d3 (broadcastInDim ⟨3, ![N, H, C]⟩ ![] b1 (constant ⟨0, ![]⟩ .f32 0x00000000#32)) raw
        (mulf X (broadcastInDim ⟨3, ![E, H, C]⟩ ![0, 1, 2] b4 (broadcastInDim ⟨3, ![E, H, 1]⟩ ![0, 1] b3
          (Host.divf t (addf (Host.gather gd (Host.scatterAdd d2 (broadcastInDim ⟨2, ![N, H]⟩ ![] b5
                (constant ⟨0, ![]⟩ .f32 0x00000000#32)) raw t) wrapped)
              (mulf (broadcastInDim ⟨2, ![E, H]⟩ ![] b9 (constant ⟨0, ![]⟩ .f32 0x24E69595#32))
                (Host.exp (Host.negf (Host.gather gd a wrapped))))))))) := by
  -- the index word of edge `e`, raw and wrapped, agree where the raw one is a row
  have hw : ∀ e : Fin E, ∀ k : ℕ, (raw (ix2 e 0)).toInt = k → wrapped (ix2 e 0) = raw (ix2 e 0) := by
    intro e k hk
    have h0 : 0 ≤ (raw (ix2 e 0)).toInt := by rw [hk]; omega
    rw [hwrapped]
    rw [hraw] at h0 ⊢
    exact wrap_of_nonneg _ _ h0
  clear hwrapped hraw
  have hg : ∀ p : (⟨2, ![E, H]⟩ : Shape).Idx, ∀ q : (⟨2, ![N, H]⟩ : Shape).Idx,
      (raw (ix2 (p 0) 0)).toInt = (q 0).val → (p 1).val = (q 1).val → gd.operandIdx p wrapped = q := by
    intro p q h0 h1
    obtain ⟨e0, e1⟩ := reads2 gd hod hcd hob hsb hsm hiv hss wrapped p
    have hq : (q 0).val < N := (q 0).isLt
    funext b
    fin_cases b
    · refine Fin.ext (e0.trans ?_)
      rw [hw (p 0) _ h0, h0]
      show min (((q 0).val : Int).toNat) (N - 1) = (q 0).val
      omega
    · exact Fin.ext (e1.trans h1)
  subst ht
  funext y
  have key := shifted_softmax
    (π := fun u : (⟨3, ![E, H, C]⟩ : Shape).Idx => (ix2 (u 0) (u 1) : (⟨2, ![E, H]⟩ : Shape).Idx))
    (κ := fun y : (⟨3, ![N, H, C]⟩ : Shape).Idx => (ix2 (y 0) (y 1) : (⟨2, ![N, H]⟩ : Shape).Idx))
    (rN := fun u => d3.resultIdx? u raw) (rD := fun p => d2.resultIdx? p raw) (g := fun p => gd.operandIdx p wrapped)
    (fun u y h => by
      obtain ⟨h0, h1⟩ := lands3 d3 huw3 hiw3 hsd3 hiv3 raw u y h
      exact hg _ _ h0 h1)
    (fun p q h => by
      obtain ⟨h0, h1⟩ := lands2 d2 huw2 hiw2 hsd2 hiv2 raw p q h
      exact hg p q h0 h1) X α a ha _ _ zero_word guard_word y
  have hX : ∀ T : FVec Ideal ⟨2, ![E, H]⟩ .f32, mulf X (broadcastInDim ⟨3, ![E, H, C]⟩ ![0, 1, 2] b4 (broadcastInDim ⟨3, ![E, H, 1]⟩ ![0, 1] b3 T))
      = fun u => (X u * T (ix2 (u 0) (u 1)) : EReal) := fun T => funext fun u => congrArg (X u * · : EReal → EReal) (spread b3 b4 T u)
  rw [hX, hX]
  have hD : ∀ T : FVec Ideal ⟨2, ![N, H]⟩ .f32,
      (broadcastInDim ⟨3, ![N, H, C]⟩ ![0, 1, 2] b8 (addf (broadcastInDim ⟨3, ![N, H, 1]⟩ ![0, 1] b6 T)
        (broadcastInDim ⟨3, ![N, H, 1]⟩ ![] b7 (constant ⟨0, ![]⟩ .f32 0x24E69595#32)))) y
      = (T (ix2 (y 0) (y 1)) + Ideal.ofBits .f32 0x24E69595#32 : EReal) :=
    fun T => congrArg (· + Ideal.ofBits .f32 0x24E69595#32 : EReal → EReal) (spread b6 b8 T y)
  refine Eq.trans (congrArg (Ideal.div _) (hD _)) ?_
  exact key

end Cert.Proof
-- ==== Proof.ReferenceProducts.lean ====
/- The reference's four kinds of matrix product, each as the plain product of two matrices of extended reals. -/
module

public import proofs.«01_k».proof.Proof.Gen.ReferenceIdeal
public import proofs.«01_k».proof.Proof.Product

@[expose] public section

noncomputable section

namespace Cert.ReferenceIdeal.Layer

open Idealize.ShloMosaic
open Cert.ReferenceIdeal Cert.ReferenceIdeal.Gen Cert.Proof

/-- Nodes against a first-layer weight. -/
theorem nodes1 (A : FVec Ideal S10000x256 .f32) (B : FVec Ideal S256x1024 .f32) :
    Host.dotGeneral dot_S10000x256_S256x1024_S10000x1024_1_0_0_1_n_n none A B = (product A B : FVec Ideal S10000x1024 .f32) := by
  funext i
  unfold product
  pointwise

/-- Edge features against the first layer's edge weight. -/
theorem edges1 (A : FVec Ideal S160000x16 .f32) (B : FVec Ideal S16x1024 .f32) :
    Host.dotGeneral dot_S160000x16_S16x1024_S160000x1024_1_0_0_1_n_n none A B = (product A B : FVec Ideal S160000x1024 .f32) := by
  funext i
  unfold product
  pointwise

/-- Nodes against a second-layer weight. -/
theorem nodes2 (A : FVec Ideal S10000x1024 .f32) (B : FVec Ideal S1024x256 .f32) :
    Host.dotGeneral dot_S10000x1024_S1024x256_S10000x256_1_0_0_1_n_n none A B = (product A B : FVec Ideal S10000x256 .f32) := by
  funext i
  unfold product
  pointwise

/-- Edge features against the second layer's edge weight. -/
theorem edges2 (A : FVec Ideal S160000x16 .f32) (B : FVec Ideal S16x256 .f32) :
    Host.dotGeneral dot_S160000x16_S16x256_S160000x256_1_0_0_1_n_n none A B = (product A B : FVec Ideal S160000x256 .f32) := by
  funext i
  unfold product
  pointwise

end Cert.ReferenceIdeal.Layer
-- ==== Proof.FirstLayer.lean ====
/- The first layer: at each boundary of the kernel's run, the buffers that later steps read hold what the reference's run holds
   at the same step, and the layer's rectified result is the reference's. -/
module

public import proofs.«01_k».proof.Proof.Agree
public import proofs.«01_k».proof.Proof.RegionValue
public import proofs.«01_k».proof.Proof.Stretches
public import proofs.«01_k».proof.Proof.Layer
public import proofs.«01_k».proof.Proof.ReferenceProducts
public import proofs.«01_k».proof.Proof.Gen.ReferenceIdeal.Run

@[expose] public section

set_option maxRecDepth 16384

noncomputable section

namespace Cert.KernelIdeal.Layer

open Idealize.ShloMosaic Idealize.ShloMosaic.TcCoe Idealize.ShloMosaic.StableHlo
open Cert.KernelIdeal Cert.KernelIdeal.Gen
open Cert.ReferenceIdeal.Value (res_main_v1 res_main_v3 res_main_v22 res_main_v31 res_main_v36 res_main_v46 res_main_v50 res_main_v59
  res_main_v93 res_main_v112 res_main_v121 res_main_v126 res_main_v136 res_main_v140 res_main_v149)

variable (m : (ℓ : Loc nD τ sig) → Buf (Elt Ideal) ℓ) (ρ : Dev nD → PrngReg) (c : Dev nD)
  (R : Valuation Cert.ReferenceIdeal.τ Cert.ReferenceIdeal.sig (Elt Ideal)) (h : Agree m c R)

include h in
/-- The source nodes, as the host operations after region 2 find them. -/
theorem at6_v1 : @Eq (IVec S160000 32) (W6 m ρ c (Proc.devRef .tc main_v1)) (res_main_v1 R) :=
  @Eq.trans (IVec S160000 32) _ _ _ (W6_of m ρ c main_v1 (by decide)) <|
    @Eq.trans (IVec S160000 32) _ _ _ (W5_of m ρ c main_v1 (by decide)) <|
    @Eq.trans (IVec S160000 32) _ _ _ (W4_of m ρ c main_v1 (by decide)) <|
    @Eq.trans (IVec S160000 32) _ _ _ (W3_of m ρ c main_v1 (by decide)) <|
    @Eq.trans (IVec S160000 32) _ _ _ (W2_of m ρ c main_v1 (by decide)) <|
    @Eq.trans (IVec S160000 32) _ _ _ (after0_v1 (W0 m ρ c)) <|
    (by rw [show @Eq (IVec S2x160000 32) (W0 m ρ c (Proc.devRef .tc main_arg1))
        (R (Proc.devRef .tc Cert.ReferenceIdeal.main_arg1))
        from @Eq.trans (IVec S2x160000 32) _ _ _ (W0_args m ρ c main_arg1 (by decide)) h.a1.symm] <;> rfl)

include h in
/-- The destination nodes, as the host operations after region 2 find them. -/
theorem at6_v3 : @Eq (IVec S160000 32) (W6 m ρ c (Proc.devRef .tc main_v3)) (res_main_v3 R) :=
  @Eq.trans (IVec S160000 32) _ _ _ (W6_of m ρ c main_v3 (by decide)) <|
    @Eq.trans (IVec S160000 32) _ _ _ (W5_of m ρ c main_v3 (by decide)) <|
    @Eq.trans (IVec S160000 32) _ _ _ (W4_of m ρ c main_v3 (by decide)) <|
    @Eq.trans (IVec S160000 32) _ _ _ (W3_of m ρ c main_v3 (by decide)) <|
    @Eq.trans (IVec S160000 32) _ _ _ (W2_of m ρ c main_v3 (by decide)) <|
    @Eq.trans (IVec S160000 32) _ _ _ (after0_v3 (W0 m ρ c)) <|
    (by rw [show @Eq (IVec S2x160000 32) (W0 m ρ c (Proc.devRef .tc main_arg1))
        (R (Proc.devRef .tc Cert.ReferenceIdeal.main_arg1))
        from @Eq.trans (IVec S2x160000 32) _ _ _ (W0_args m ρ c main_arg1 (by decide)) h.a1.symm] <;> rfl)

include h in
/-- What region 0 leaves: the source projection's product, as the reference's. -/
theorem at2_v4 : @Eq (FVec Ideal S10000x1024 .f32) (W2 m ρ c (Proc.devRef .tc main_v4))
    (Host.dotGeneral Cert.ReferenceIdeal.dot_S10000x256_S256x1024_S10000x1024_1_0_0_1_n_n (φ₁ := .f32) (φ₂ := .f32) none
    (R (Proc.devRef .tc Cert.ReferenceIdeal.main_arg0)) (R (Proc.devRef .tc Cert.ReferenceIdeal.main_arg3))) := by
  refine @Eq.trans (FVec Ideal S10000x1024 .f32) _ _ _ (W2_arr m ρ c 2) (@Eq.trans (FVec Ideal S10000x1024 .f32) _ _ _ (region0 (V1 m ρ) c) ?_)
  rw [show @Eq (FVec Ideal S10000x256 .f32) (V1 m ρ c main_arg0) (R (Proc.devRef .tc Cert.ReferenceIdeal.main_arg0))
      from @Eq.trans (FVec Ideal S10000x256 .f32) _ _ _ (W1_args m ρ c main_arg0 (by decide)) h.a0.symm,
    show @Eq (FVec Ideal S256x1024 .f32) (V1 m ρ c main_arg3) (R (Proc.devRef .tc Cert.ReferenceIdeal.main_arg3))
        from @Eq.trans (FVec Ideal S256x1024 .f32) _ _ _ (W1_args m ρ c main_arg3 (by decide)) h.a3.symm]
  exact (Cert.ReferenceIdeal.Layer.nodes1 _ _).symm

include h in
/-- The source projection: the product plus the bias, as the reference's. -/
theorem at6_v7 : @Eq (FVec Ideal S10000x1024 .f32) (W6 m ρ c (Proc.devRef .tc main_v7)) (addf
    (Host.dotGeneral Cert.ReferenceIdeal.dot_S10000x256_S256x1024_S10000x1024_1_0_0_1_n_n (φ₁ := .f32) (φ₂ := .f32) none
    (R (Proc.devRef .tc Cert.ReferenceIdeal.main_arg0)) (R (Proc.devRef .tc Cert.ReferenceIdeal.main_arg3)))
    (broadcastInDim Cert.ReferenceIdeal.S10000x1024 ![0, 1] Cert.ReferenceIdeal.Facts₀.bcast_S1x1024_S10000x1024_0_1
      (broadcastInDim Cert.ReferenceIdeal.S1x1024 ![1] Cert.ReferenceIdeal.Facts₀.bcast_S1024_S1x1024_1
          (R (Proc.devRef .tc Cert.ReferenceIdeal.main_arg4))))) :=
  @Eq.trans (FVec Ideal S10000x1024 .f32) _ _ _ (W6_of m ρ c main_v7 (by decide)) <|
    @Eq.trans (FVec Ideal S10000x1024 .f32) _ _ _ (W5_of m ρ c main_v7 (by decide)) <|
    @Eq.trans (FVec Ideal S10000x1024 .f32) _ _ _ (W4_of m ρ c main_v7 (by decide)) <|
    @Eq.trans (FVec Ideal S10000x1024 .f32) _ _ _ (after1_v7 (W2 m ρ c)) <|
    (by
      rw [show @Eq (FVec Ideal S10000x1024 .f32) (W2 m ρ c (Proc.devRef .tc main_v4)) _ from at2_v4 m ρ c R h,
        show @Eq (FVec Ideal S1024 .f32) (W2 m ρ c (Proc.devRef .tc main_arg4))
            (R (Proc.devRef .tc Cert.ReferenceIdeal.main_arg4))
            from @Eq.trans (FVec Ideal S1024 .f32) _ _ _ (W2_args m ρ c main_arg4 (by decide)) h.a4.symm] <;> rfl)

include h in
/-- What region 1 leaves: the destination projection's product, as the reference's. -/
theorem at4_v8 : @Eq (FVec Ideal S10000x1024 .f32) (W4 m ρ c (Proc.devRef .tc main_v8))
    (Host.dotGeneral Cert.ReferenceIdeal.dot_S10000x256_S256x1024_S10000x1024_1_0_0_1_n_n (φ₁ := .f32) (φ₂ := .f32) none
    (R (Proc.devRef .tc Cert.ReferenceIdeal.main_arg0)) (R (Proc.devRef .tc Cert.ReferenceIdeal.main_arg5))) := by
  refine @Eq.trans (FVec Ideal S10000x1024 .f32) _ _ _ (W4_arr m ρ c 2) (@Eq.trans (FVec Ideal S10000x1024 .f32) _ _ _ (region1 (V3 m ρ) c) ?_)
  rw [show @Eq (FVec Ideal S10000x256 .f32) (V3 m ρ c main_arg0) (R (Proc.devRef .tc Cert.ReferenceIdeal.main_arg0))
      from @Eq.trans (FVec Ideal S10000x256 .f32) _ _ _ (W3_args m ρ c main_arg0 (by decide)) h.a0.symm,
    show @Eq (FVec Ideal S256x1024 .f32) (V3 m ρ c main_arg5) (R (Proc.devRef .tc Cert.ReferenceIdeal.main_arg5))
        from @Eq.trans (FVec Ideal S256x1024 .f32) _ _ _ (W3_args m ρ c main_arg5 (by decide)) h.a5.symm]
  exact (Cert.ReferenceIdeal.Layer.nodes1 _ _).symm

include h in
/-- The destination projection: the product plus the bias, as the reference's. -/
theorem at6_v11 : @Eq (FVec Ideal S10000x1024 .f32) (W6 m ρ c (Proc.devRef .tc main_v11)) (addf
    (Host.dotGeneral Cert.ReferenceIdeal.dot_S10000x256_S256x1024_S10000x1024_1_0_0_1_n_n (φ₁ := .f32) (φ₂ := .f32) none
    (R (Proc.devRef .tc Cert.ReferenceIdeal.main_arg0)) (R (Proc.devRef .tc Cert.ReferenceIdeal.main_arg5)))
    (broadcastInDim Cert.ReferenceIdeal.S10000x1024 ![0, 1] Cert.ReferenceIdeal.Facts₀.bcast_S1x1024_S10000x1024_0_1
      (broadcastInDim Cert.ReferenceIdeal.S1x1024 ![1] Cert.ReferenceIdeal.Facts₀.bcast_S1024_S1x1024_1
          (R (Proc.devRef .tc Cert.ReferenceIdeal.main_arg6))))) :=
  @Eq.trans (FVec Ideal S10000x1024 .f32) _ _ _ (W6_of m ρ c main_v11 (by decide)) <|
    @Eq.trans (FVec Ideal S10000x1024 .f32) _ _ _ (after2_v11 (W4 m ρ c)) <|
    (by
      rw [show @Eq (FVec Ideal S10000x1024 .f32) (W4 m ρ c (Proc.devRef .tc main_v8)) _ from at4_v8 m ρ c R h,
        show @Eq (FVec Ideal S1024 .f32) (W4 m ρ c (Proc.devRef .tc main_arg6))
            (R (Proc.devRef .tc Cert.ReferenceIdeal.main_arg6))
            from @Eq.trans (FVec Ideal S1024 .f32) _ _ _ (W4_args m ρ c main_arg6 (by decide)) h.a6.symm] <;> rfl)

include h in
/-- What region 2 leaves: the edge features's product, as the reference's. -/
theorem at6_v12 : @Eq (FVec Ideal S160000x1024 .f32) (W6 m ρ c (Proc.devRef .tc main_v12))
    (Host.dotGeneral Cert.ReferenceIdeal.dot_S160000x16_S16x1024_S160000x1024_1_0_0_1_n_n (φ₁ := .f32) (φ₂ := .f32) none
    (R (Proc.devRef .tc Cert.ReferenceIdeal.main_arg2)) (R (Proc.devRef .tc Cert.ReferenceIdeal.main_arg7))) := by
  refine @Eq.trans (FVec Ideal S160000x1024 .f32) _ _ _ (W6_arr m ρ c 2) (@Eq.trans (FVec Ideal S160000x1024 .f32) _ _ _ (region2 (V5 m ρ) c) ?_)
  rw [show @Eq (FVec Ideal S160000x16 .f32) (V5 m ρ c main_arg2) (R (Proc.devRef .tc Cert.ReferenceIdeal.main_arg2))
      from @Eq.trans (FVec Ideal S160000x16 .f32) _ _ _ (W5_args m ρ c main_arg2 (by decide)) h.a2.symm,
    show @Eq (FVec Ideal S16x1024 .f32) (V5 m ρ c main_arg7) (R (Proc.devRef .tc Cert.ReferenceIdeal.main_arg7))
        from @Eq.trans (FVec Ideal S16x1024 .f32) _ _ _ (W5_args m ρ c main_arg7 (by decide)) h.a7.symm]
  exact (Cert.ReferenceIdeal.Layer.edges1 _ _).symm

include h in
/-- The messages are the reference's. -/
theorem at7_v22 : @Eq (FVec Ideal S160000x4x256 .f32) (W7 m ρ c (Proc.devRef .tc main_v22)) (res_main_v22 R) :=
  @Eq.trans (FVec Ideal S160000x4x256 .f32) _ _ _ (after3_v22 (W6 m ρ c)) (by
    rw [show @Eq (FVec Ideal S10000x1024 .f32) (W6 m ρ c (Proc.devRef .tc main_v7)) _ from at6_v7 m ρ c R h,
      show @Eq (IVec S160000 32) (W6 m ρ c (Proc.devRef .tc main_v1)) _ from at6_v1 m ρ c R h] <;> rfl)

include h in
/-- The scores' pre-activation is the reference's. -/
theorem at7_v31 : @Eq (FVec Ideal S160000x4x256 .f32) (W7 m ρ c (Proc.devRef .tc main_v31)) (res_main_v31 R) :=
  @Eq.trans (FVec Ideal S160000x4x256 .f32) _ _ _ (after3_v31 (W6 m ρ c)) (by
    rw [show @Eq (FVec Ideal S10000x1024 .f32) (W6 m ρ c (Proc.devRef .tc main_v7)) _ from at6_v7 m ρ c R h,
      show @Eq (FVec Ideal S10000x1024 .f32) (W6 m ρ c (Proc.devRef .tc main_v11)) _ from at6_v11 m ρ c R h,
      show @Eq (FVec Ideal S160000x1024 .f32) (W6 m ρ c (Proc.devRef .tc main_v12)) _ from at6_v12 m ρ c R h,
      show @Eq (IVec S160000 32) (W6 m ρ c (Proc.devRef .tc main_v1)) _ from at6_v1 m ρ c R h,
      show @Eq (IVec S160000 32) (W6 m ρ c (Proc.devRef .tc main_v3)) _ from at6_v3 m ρ c R h] <;> rfl)

include h in
/-- The logits are the reference's. -/
theorem at8_logits : @Eq (FVec Ideal S160000x4 .f32) (logits4 (W8 m ρ c)) (res_main_v36 R) := by
  unfold logits4
  rw [show (W8 m ρ c (Proc.devRef .tc main_v32)) = _ from after3_1_v32 (W7 m ρ c),
    show @Eq (FVec Ideal S160000x4x256 .f32) (W7 m ρ c (Proc.devRef .tc main_v31)) _ from at7_v31 m ρ c R h,
    show (W7 m ρ c (Proc.devRef .tc main_cst)) = _ from after3_cst (W6 m ρ c),
    show @Eq (FVec Ideal S4x256 .f32) (W8 m ρ c (Proc.devRef .tc main_arg8)) (R (Proc.devRef .tc Cert.ReferenceIdeal.main_arg8))
        from @Eq.trans (FVec Ideal S4x256 .f32) _ _ _ (W8_args m ρ c main_arg8 (by decide)) h.a8.symm] <;> rfl

include h in
/-- The layer's result, once aggregated and rectified, is the reference's. -/
theorem at10_v56 : @Eq (FVec Ideal S10000x1024 .f32) (W10 m ρ c (Proc.devRef .tc main_v56)) (res_main_v93 R) := by
  refine @Eq.trans (FVec Ideal S10000x1024 .f32) _ _ _ (after3_3_v56 (W9 m ρ c)) ?_
  rw [show (W9 m ρ c (Proc.devRef .tc main_v55)) = _ from after3_2_v55 (W8 m ρ c), at8_logits m ρ c R h,
    show @Eq (FVec Ideal S160000x4x256 .f32) (W8 m ρ c (Proc.devRef .tc main_v22)) _
        from @Eq.trans (FVec Ideal S160000x4x256 .f32) _ _ _ (W8_of m ρ c main_v22 (by decide)) (at7_v22 m ρ c R h),
    show @Eq (IVec S160000 32) (W8 m ρ c (Proc.devRef .tc main_v3)) _
        from @Eq.trans (IVec S160000 32) _ _ _ (W8_of m ρ c main_v3 (by decide))
      (@Eq.trans (IVec S160000 32) _ _ _ (W7_of m ρ c main_v3 (by decide)) (at6_v3 m ρ c R h)),
    show @Eq (FVec Ideal S1024 .f32) (W8 m ρ c (Proc.devRef .tc main_arg9)) (R (Proc.devRef .tc Cert.ReferenceIdeal.main_arg9))
        from @Eq.trans (FVec Ideal S1024 .f32) _ _ _ (W8_args m ρ c main_arg9 (by decide)) h.a9.symm]
  refine congrArg₂ maximumf (congrArg₂ addf (congrArg (fun z => shapeCast _ z Cert.ReferenceIdeal.Facts₀.shapeCasts_S10000x4x256_S10000x1024) ?_) rfl) rfl
  exact Cert.Proof.layer Cert.ReferenceIdeal.scatter_S10000x4x256_S160000x1_S160000x4x256_12_0_0_1 rfl rfl rfl rfl
    Cert.ReferenceIdeal.scatter_S10000x4_S160000x1_S160000x4_1_0_0_1 rfl rfl rfl rfl
    Cert.ReferenceIdeal.gather_S10000x4_S160000x1_S160000x4_1_0_n_n_0_1_14 rfl rfl rfl rfl rfl rfl rfl
    Cert.ReferenceIdeal.Facts₀.bcast_S_S10000x4x256 Cert.ReferenceIdeal.Facts₀.bcast_S160000_S160000x1_0 Cert.ReferenceIdeal.Facts₀.bcast_S160000x4_S160000x4x1_0_1
    Cert.ReferenceIdeal.Facts₀.bcast_S160000x4x1_S160000x4x256_0_1_2 Cert.ReferenceIdeal.Facts₀.bcast_S_S10000x4 bcast_S10000x4_S10000x4x1_0_1
    bcast_S_S10000x4x1 bcast_S10000x4x1_S10000x4x256_0_1_2 Cert.ReferenceIdeal.Facts₀.bcast_S_S160000x4 Cert.ReferenceIdeal.Facts₀.bcast_S_S160000
    (res_main_v22 R) (res_main_v36 R) (res_main_v50 R)
    (fun q => Cert.Proof.masked_shift_finite Cert.ReferenceIdeal.Facts₀.bcast_S_S10000x4 Cert.ReferenceIdeal.Facts₀.bcast_S_S10000x4 (res_main_v46 R) q)
    (res_main_v3 R) 10000#32 _ _ rfl rfl (res_main_v59 R) rfl

end Cert.KernelIdeal.Layer
-- ==== Proof.SecondLayer.lean ====
/- The second layer and the readout: from the first layer's rectified result on, the kernel's buffers hold what the reference's
   hold, up to the result. -/
module

public import proofs.«01_k».proof.Proof.FirstLayer

@[expose] public section

set_option maxRecDepth 16384

noncomputable section

namespace Cert.KernelIdeal.Layer

open Idealize.ShloMosaic Idealize.ShloMosaic.TcCoe Idealize.ShloMosaic.StableHlo
open Cert.KernelIdeal Cert.KernelIdeal.Gen
open Cert.ReferenceIdeal.Value (res_main_v1 res_main_v3 res_main_v22 res_main_v31 res_main_v36 res_main_v46 res_main_v50 res_main_v59
  res_main_v93 res_main_v112 res_main_v121 res_main_v126 res_main_v136 res_main_v140 res_main_v149)

variable (m : (ℓ : Loc nD τ sig) → Buf (Elt Ideal) ℓ) (ρ : Dev nD → PrngReg) (c : Dev nD)
  (R : Valuation Cert.ReferenceIdeal.τ Cert.ReferenceIdeal.sig (Elt Ideal)) (h : Agree m c R)

include h in
/-- The source nodes, as the host operations after region 5 find them. -/
theorem at15_v1 : @Eq (IVec S160000 32) (W15 m ρ c (Proc.devRef .tc main_v1)) (res_main_v1 R) :=
  @Eq.trans (IVec S160000 32) _ _ _ (W15_of m ρ c main_v1 (by decide)) <|
    @Eq.trans (IVec S160000 32) _ _ _ (W14_of m ρ c main_v1 (by decide)) <|
    @Eq.trans (IVec S160000 32) _ _ _ (W13_of m ρ c main_v1 (by decide)) <|
    @Eq.trans (IVec S160000 32) _ _ _ (W12_of m ρ c main_v1 (by decide)) <|
    @Eq.trans (IVec S160000 32) _ _ _ (W11_of m ρ c main_v1 (by decide)) <|
    @Eq.trans (IVec S160000 32) _ _ _ (W10_of m ρ c main_v1 (by decide)) <|
    @Eq.trans (IVec S160000 32) _ _ _ (W9_of m ρ c main_v1 (by decide)) <|
    @Eq.trans (IVec S160000 32) _ _ _ (W8_of m ρ c main_v1 (by decide)) <|
    @Eq.trans (IVec S160000 32) _ _ _ (W7_of m ρ c main_v1 (by decide)) <|
    at6_v1 m ρ c R h

include h in
/-- The destination nodes, as the host operations after region 5 find them. -/
theorem at15_v3 : @Eq (IVec S160000 32) (W15 m ρ c (Proc.devRef .tc main_v3)) (res_main_v3 R) :=
  @Eq.trans (IVec S160000 32) _ _ _ (W15_of m ρ c main_v3 (by decide)) <|
    @Eq.trans (IVec S160000 32) _ _ _ (W14_of m ρ c main_v3 (by decide)) <|
    @Eq.trans (IVec S160000 32) _ _ _ (W13_of m ρ c main_v3 (by decide)) <|
    @Eq.trans (IVec S160000 32) _ _ _ (W12_of m ρ c main_v3 (by decide)) <|
    @Eq.trans (IVec S160000 32) _ _ _ (W11_of m ρ c main_v3 (by decide)) <|
    @Eq.trans (IVec S160000 32) _ _ _ (W10_of m ρ c main_v3 (by decide)) <|
    @Eq.trans (IVec S160000 32) _ _ _ (W9_of m ρ c main_v3 (by decide)) <|
    @Eq.trans (IVec S160000 32) _ _ _ (W8_of m ρ c main_v3 (by decide)) <|
    @Eq.trans (IVec S160000 32) _ _ _ (W7_of m ρ c main_v3 (by decide)) <|
    at6_v3 m ρ c R h

include h in
/-- What region 3 leaves: the source projection's product, as the reference's. -/
theorem at11_v57 : @Eq (FVec Ideal S10000x256 .f32) (W11 m ρ c (Proc.devRef .tc main_v57))
    (Host.dotGeneral Cert.ReferenceIdeal.dot_S10000x1024_S1024x256_S10000x256_1_0_0_1_n_n (φ₁ := .f32) (φ₂ := .f32) none (res_main_v93 R)
    (R (Proc.devRef .tc Cert.ReferenceIdeal.main_arg10))) := by
  refine @Eq.trans (FVec Ideal S10000x256 .f32) _ _ _ (W11_arr m ρ c 2) (@Eq.trans (FVec Ideal S10000x256 .f32) _ _ _ (region3 (V10 m ρ) c) ?_)
  rw [show @Eq (FVec Ideal S10000x1024 .f32) (V10 m ρ c main_v56) _ from at10_v56 m ρ c R h,
    show @Eq (FVec Ideal S1024x256 .f32) (V10 m ρ c main_arg10) (R (Proc.devRef .tc Cert.ReferenceIdeal.main_arg10))
        from @Eq.trans (FVec Ideal S1024x256 .f32) _ _ _ (W10_args m ρ c main_arg10 (by decide)) h.a10.symm]
  exact (Cert.ReferenceIdeal.Layer.nodes2 _ _).symm

include h in
/-- The source projection: the product plus the bias, as the reference's. -/
theorem at15_v60 : @Eq (FVec Ideal S10000x256 .f32) (W15 m ρ c (Proc.devRef .tc main_v60)) (addf
    (Host.dotGeneral Cert.ReferenceIdeal.dot_S10000x1024_S1024x256_S10000x256_1_0_0_1_n_n (φ₁ := .f32) (φ₂ := .f32) none (res_main_v93 R)
    (R (Proc.devRef .tc Cert.ReferenceIdeal.main_arg10)))
    (broadcastInDim Cert.ReferenceIdeal.S10000x256 ![0, 1] Cert.ReferenceIdeal.Facts₀.bcast_S1x256_S10000x256_0_1
      (broadcastInDim Cert.ReferenceIdeal.S1x256 ![1] Cert.ReferenceIdeal.Facts₀.bcast_S256_S1x256_1
          (R (Proc.devRef .tc Cert.ReferenceIdeal.main_arg11))))) :=
  @Eq.trans (FVec Ideal S10000x256 .f32) _ _ _ (W15_of m ρ c main_v60 (by decide)) <|
    @Eq.trans (FVec Ideal S10000x256 .f32) _ _ _ (W14_of m ρ c main_v60 (by decide)) <|
    @Eq.trans (FVec Ideal S10000x256 .f32) _ _ _ (W13_of m ρ c main_v60 (by decide)) <|
    @Eq.trans (FVec Ideal S10000x256 .f32) _ _ _ (after4_v60 (W11 m ρ c)) <|
    (by
      rw [show @Eq (FVec Ideal S10000x256 .f32) (W11 m ρ c (Proc.devRef .tc main_v57)) _ from at11_v57 m ρ c R h,
        show @Eq (FVec Ideal S256 .f32) (W11 m ρ c (Proc.devRef .tc main_arg11))
            (R (Proc.devRef .tc Cert.ReferenceIdeal.main_arg11))
            from @Eq.trans (FVec Ideal S256 .f32) _ _ _ (W11_args m ρ c main_arg11 (by decide)) h.a11.symm] <;> rfl)

include h in
/-- What region 4 leaves: the destination projection's product, as the reference's. -/
theorem at13_v61 : @Eq (FVec Ideal S10000x256 .f32) (W13 m ρ c (Proc.devRef .tc main_v61))
    (Host.dotGeneral Cert.ReferenceIdeal.dot_S10000x1024_S1024x256_S10000x256_1_0_0_1_n_n (φ₁ := .f32) (φ₂ := .f32) none (res_main_v93 R)
    (R (Proc.devRef .tc Cert.ReferenceIdeal.main_arg12))) := by
  refine @Eq.trans (FVec Ideal S10000x256 .f32) _ _ _ (W13_arr m ρ c 2) (@Eq.trans (FVec Ideal S10000x256 .f32) _ _ _ (region4 (V12 m ρ) c) ?_)
  rw [show @Eq (FVec Ideal S10000x1024 .f32) (V12 m ρ c main_v56) _
      from @Eq.trans (FVec Ideal S10000x1024 .f32) _ _ _ (W12_of m ρ c main_v56 (by decide))
      (@Eq.trans (FVec Ideal S10000x1024 .f32) _ _ _ (W11_of m ρ c main_v56 (by decide)) (at10_v56 m ρ c R h)),
    show @Eq (FVec Ideal S1024x256 .f32) (V12 m ρ c main_arg12) (R (Proc.devRef .tc Cert.ReferenceIdeal.main_arg12))
        from @Eq.trans (FVec Ideal S1024x256 .f32) _ _ _ (W12_args m ρ c main_arg12 (by decide)) h.a12.symm]
  exact (Cert.ReferenceIdeal.Layer.nodes2 _ _).symm

include h in
/-- The destination projection: the product plus the bias, as the reference's. -/
theorem at15_v64 : @Eq (FVec Ideal S10000x256 .f32) (W15 m ρ c (Proc.devRef .tc main_v64)) (addf
    (Host.dotGeneral Cert.ReferenceIdeal.dot_S10000x1024_S1024x256_S10000x256_1_0_0_1_n_n (φ₁ := .f32) (φ₂ := .f32) none (res_main_v93 R)
    (R (Proc.devRef .tc Cert.ReferenceIdeal.main_arg12)))
    (broadcastInDim Cert.ReferenceIdeal.S10000x256 ![0, 1] Cert.ReferenceIdeal.Facts₀.bcast_S1x256_S10000x256_0_1
      (broadcastInDim Cert.ReferenceIdeal.S1x256 ![1] Cert.ReferenceIdeal.Facts₀.bcast_S256_S1x256_1
          (R (Proc.devRef .tc Cert.ReferenceIdeal.main_arg13))))) :=
  @Eq.trans (FVec Ideal S10000x256 .f32) _ _ _ (W15_of m ρ c main_v64 (by decide)) <|
    @Eq.trans (FVec Ideal S10000x256 .f32) _ _ _ (after5_v64 (W13 m ρ c)) <|
    (by
      rw [show @Eq (FVec Ideal S10000x256 .f32) (W13 m ρ c (Proc.devRef .tc main_v61)) _ from at13_v61 m ρ c R h,
        show @Eq (FVec Ideal S256 .f32) (W13 m ρ c (Proc.devRef .tc main_arg13))
            (R (Proc.devRef .tc Cert.ReferenceIdeal.main_arg13))
            from @Eq.trans (FVec Ideal S256 .f32) _ _ _ (W13_args m ρ c main_arg13 (by decide)) h.a13.symm] <;> rfl)

include h in
/-- What region 5 leaves: the edge features's product, as the reference's. -/
theorem at15_v65 : @Eq (FVec Ideal S160000x256 .f32) (W15 m ρ c (Proc.devRef .tc main_v65))
    (Host.dotGeneral Cert.ReferenceIdeal.dot_S160000x16_S16x256_S160000x256_1_0_0_1_n_n (φ₁ := .f32) (φ₂ := .f32) none
    (R (Proc.devRef .tc Cert.ReferenceIdeal.main_arg2)) (R (Proc.devRef .tc Cert.ReferenceIdeal.main_arg14))) := by
  refine @Eq.trans (FVec Ideal S160000x256 .f32) _ _ _ (W15_arr m ρ c 2) (@Eq.trans (FVec Ideal S160000x256 .f32) _ _ _ (region5 (V14 m ρ) c) ?_)
  rw [show @Eq (FVec Ideal S160000x16 .f32) (V14 m ρ c main_arg2) (R (Proc.devRef .tc Cert.ReferenceIdeal.main_arg2))
      from @Eq.trans (FVec Ideal S160000x16 .f32) _ _ _ (W14_args m ρ c main_arg2 (by decide)) h.a2.symm,
    show @Eq (FVec Ideal S16x256 .f32) (V14 m ρ c main_arg14) (R (Proc.devRef .tc Cert.ReferenceIdeal.main_arg14))
        from @Eq.trans (FVec Ideal S16x256 .f32) _ _ _ (W14_args m ρ c main_arg14 (by decide)) h.a14.symm]
  exact (Cert.ReferenceIdeal.Layer.edges2 _ _).symm

/-- The reference's second-layer result: its messages, weighted and summed per node, plus the bias, rectified. -/
def second (R : Valuation Cert.ReferenceIdeal.τ Cert.ReferenceIdeal.sig (Elt Ideal)) : FVec Ideal Cert.ReferenceIdeal.S10000x256 .f32 :=
  (maximumf (addf (shapeCast _ (Host.scatterAdd
    Cert.ReferenceIdeal.scatter_S10000x1x256_S160000x1_S160000x1x256_12_0_0_1 (broadcastInDim
    Cert.ReferenceIdeal.S10000x1x256 ![] Cert.ReferenceIdeal.Facts₀.bcast_S_S10000x1x256 (constant Cert.ReferenceIdeal.S_ .f32
    0x00000000#32)) (broadcastInDim Cert.ReferenceIdeal.S160000x1 ![0] Cert.ReferenceIdeal.Facts₀.bcast_S160000_S160000x1_0
    (res_main_v3 R)) (mulf (res_main_v112 R) (broadcastInDim Cert.ReferenceIdeal.S160000x1x256 ![0, 1, 2]
    Cert.ReferenceIdeal.Facts₀.bcast_S160000x1x1_S160000x1x256_0_1_2 (broadcastInDim Cert.ReferenceIdeal.S160000x1x1 ![0, 1]
    Cert.ReferenceIdeal.Facts₀.bcast_S160000x1_S160000x1x1_0_1 (Host.divf (res_main_v149 R) (addf (Host.gather
    Cert.ReferenceIdeal.gather_S10000x1_S160000x1_S160000x1_1_0_n_n_0_1_11 (Host.scatterAdd
    Cert.ReferenceIdeal.scatter_S10000x1_S160000x1_S160000x1_1_0_0_1 (broadcastInDim Cert.ReferenceIdeal.S10000x1 ![]
    Cert.ReferenceIdeal.Facts₀.bcast_S_S10000x1 (constant Cert.ReferenceIdeal.S_ .f32 0x00000000#32)) (broadcastInDim
    Cert.ReferenceIdeal.S160000x1 ![0] Cert.ReferenceIdeal.Facts₀.bcast_S160000_S160000x1_0 (res_main_v3 R)) (res_main_v149 R))
    (broadcastInDim Cert.ReferenceIdeal.S160000x1 ![0] Cert.ReferenceIdeal.Facts₀.bcast_S160000_S160000x1_0 (select (cmpi .slt
    (res_main_v3 R) (broadcastInDim Cert.ReferenceIdeal.S160000 ![] Cert.ReferenceIdeal.Facts₀.bcast_S_S160000 (constantI
    Cert.ReferenceIdeal.S_ 32 0#32))) (addi (res_main_v3 R) (broadcastInDim Cert.ReferenceIdeal.S160000 ![]
    Cert.ReferenceIdeal.Facts₀.bcast_S_S160000 (constantI Cert.ReferenceIdeal.S_ 32 10000#32))) (res_main_v3 R)))) (mulf
    (broadcastInDim Cert.ReferenceIdeal.S160000x1 ![] Cert.ReferenceIdeal.Facts₀.bcast_S_S160000x1 (constant
    Cert.ReferenceIdeal.S_ .f32 0x24E69595#32)) (Host.exp (Host.negf (Host.gather
    Cert.ReferenceIdeal.gather_S10000x1_S160000x1_S160000x1_1_0_n_n_0_1_11 (res_main_v140 R) (broadcastInDim
    Cert.ReferenceIdeal.S160000x1 ![0] Cert.ReferenceIdeal.Facts₀.bcast_S160000_S160000x1_0 (select (cmpi .slt (res_main_v3 R)
    (broadcastInDim Cert.ReferenceIdeal.S160000 ![] Cert.ReferenceIdeal.Facts₀.bcast_S_S160000 (constantI Cert.ReferenceIdeal.S_
    32 0#32))) (addi (res_main_v3 R) (broadcastInDim Cert.ReferenceIdeal.S160000 ![] Cert.ReferenceIdeal.Facts₀.bcast_S_S160000
    (constantI Cert.ReferenceIdeal.S_ 32 10000#32))) (res_main_v3 R)))))))))))))
    Cert.ReferenceIdeal.Facts₀.shapeCasts_S10000x1x256_S10000x256) (broadcastInDim Cert.ReferenceIdeal.S10000x256 ![0, 1]
    Cert.ReferenceIdeal.Facts₀.bcast_S1x256_S10000x256_0_1 (broadcastInDim Cert.ReferenceIdeal.S1x256 ![1]
    Cert.ReferenceIdeal.Facts₀.bcast_S256_S1x256_1 (R (Proc.devRef .tc Cert.ReferenceIdeal.main_arg16))))) (broadcastInDim
    Cert.ReferenceIdeal.S10000x256 ![] Cert.ReferenceIdeal.Facts₀.bcast_S_S10000x256 (constant Cert.ReferenceIdeal.S_ .f32
    0x00000000#32)))

include h in
/-- The messages are the reference's. -/
theorem at16_v75 : @Eq (FVec Ideal S160000x1x256 .f32) (W16 m ρ c (Proc.devRef .tc main_v75)) (res_main_v112 R) :=
  @Eq.trans (FVec Ideal S160000x1x256 .f32) _ _ _ (after6_v75 (W15 m ρ c)) (by
    rw [show @Eq (FVec Ideal S10000x256 .f32) (W15 m ρ c (Proc.devRef .tc main_v60)) _ from at15_v60 m ρ c R h,
      show @Eq (IVec S160000 32) (W15 m ρ c (Proc.devRef .tc main_v1)) _ from at15_v1 m ρ c R h] <;> rfl)

include h in
/-- The scores' pre-activation is the reference's. -/
theorem at16_v84 : @Eq (FVec Ideal S160000x1x256 .f32) (W16 m ρ c (Proc.devRef .tc main_v84)) (res_main_v121 R) :=
  @Eq.trans (FVec Ideal S160000x1x256 .f32) _ _ _ (after6_v84 (W15 m ρ c)) (by
    rw [show @Eq (FVec Ideal S10000x256 .f32) (W15 m ρ c (Proc.devRef .tc main_v60)) _ from at15_v60 m ρ c R h,
      show @Eq (FVec Ideal S10000x256 .f32) (W15 m ρ c (Proc.devRef .tc main_v64)) _ from at15_v64 m ρ c R h,
      show @Eq (FVec Ideal S160000x256 .f32) (W15 m ρ c (Proc.devRef .tc main_v65)) _ from at15_v65 m ρ c R h,
      show @Eq (IVec S160000 32) (W15 m ρ c (Proc.devRef .tc main_v1)) _ from at15_v1 m ρ c R h,
      show @Eq (IVec S160000 32) (W15 m ρ c (Proc.devRef .tc main_v3)) _ from at15_v3 m ρ c R h] <;> rfl)

include h in
/-- The logits are the reference's. -/
theorem at17_logits : @Eq (FVec Ideal S160000x1 .f32) (logits1 (W17 m ρ c)) (res_main_v126 R) := by
  unfold logits1
  rw [show (W17 m ρ c (Proc.devRef .tc main_v85)) = _ from after6_1_v85 (W16 m ρ c),
    show @Eq (FVec Ideal S160000x1x256 .f32) (W16 m ρ c (Proc.devRef .tc main_v84)) _ from at16_v84 m ρ c R h,
    show (W16 m ρ c (Proc.devRef .tc main_cst_11)) = _ from after6_cst_11 (W15 m ρ c),
    show @Eq (FVec Ideal S1x256 .f32) (W17 m ρ c (Proc.devRef .tc main_arg15))
        (R (Proc.devRef .tc Cert.ReferenceIdeal.main_arg15))
        from @Eq.trans (FVec Ideal S1x256 .f32) _ _ _ (W17_args m ρ c main_arg15 (by decide)) h.a15.symm] <;> rfl

include h in
/-- The layer's result, once aggregated and rectified, is the reference's. -/
theorem at19_v109 : @Eq (FVec Ideal S10000x256 .f32) (W19 m ρ c (Proc.devRef .tc main_v109)) (second R) := by
  refine @Eq.trans (FVec Ideal S10000x256 .f32) _ _ _ (after6_3_v109 (W18 m ρ c)) ?_
  rw [show (W18 m ρ c (Proc.devRef .tc main_v108)) = _ from after6_2_v108 (W17 m ρ c), at17_logits m ρ c R h,
    show @Eq (FVec Ideal S160000x1x256 .f32) (W17 m ρ c (Proc.devRef .tc main_v75)) _
        from @Eq.trans (FVec Ideal S160000x1x256 .f32) _ _ _ (W17_of m ρ c main_v75 (by decide)) (at16_v75 m ρ c R h),
    show @Eq (IVec S160000 32) (W17 m ρ c (Proc.devRef .tc main_v3)) _
        from @Eq.trans (IVec S160000 32) _ _ _ (W17_of m ρ c main_v3 (by decide))
      (@Eq.trans (IVec S160000 32) _ _ _ (W16_of m ρ c main_v3 (by decide)) (at15_v3 m ρ c R h)),
    show @Eq (FVec Ideal S256 .f32) (W17 m ρ c (Proc.devRef .tc main_arg16)) (R (Proc.devRef .tc Cert.ReferenceIdeal.main_arg16))
        from @Eq.trans (FVec Ideal S256 .f32) _ _ _ (W17_args m ρ c main_arg16 (by decide)) h.a16.symm]
  refine congrArg₂ maximumf (congrArg₂ addf (congrArg (fun z => shapeCast _ z Cert.ReferenceIdeal.Facts₀.shapeCasts_S10000x1x256_S10000x256) ?_) rfl) rfl
  exact Cert.Proof.layer Cert.ReferenceIdeal.scatter_S10000x1x256_S160000x1_S160000x1x256_12_0_0_1 rfl rfl rfl rfl
    Cert.ReferenceIdeal.scatter_S10000x1_S160000x1_S160000x1_1_0_0_1 rfl rfl rfl rfl
    Cert.ReferenceIdeal.gather_S10000x1_S160000x1_S160000x1_1_0_n_n_0_1_11 rfl rfl rfl rfl rfl rfl rfl
    Cert.ReferenceIdeal.Facts₀.bcast_S_S10000x1x256 Cert.ReferenceIdeal.Facts₀.bcast_S160000_S160000x1_0 Cert.ReferenceIdeal.Facts₀.bcast_S160000x1_S160000x1x1_0_1
    Cert.ReferenceIdeal.Facts₀.bcast_S160000x1x1_S160000x1x256_0_1_2 Cert.ReferenceIdeal.Facts₀.bcast_S_S10000x1 bcast_S10000x1_S10000x1x1_0_1
    bcast_S_S10000x1x1 bcast_S10000x1x1_S10000x1x256_0_1_2 Cert.ReferenceIdeal.Facts₀.bcast_S_S160000x1 Cert.ReferenceIdeal.Facts₀.bcast_S_S160000
    (res_main_v112 R) (res_main_v126 R) (res_main_v140 R)
    (fun q => Cert.Proof.masked_shift_finite Cert.ReferenceIdeal.Facts₀.bcast_S_S10000x1 Cert.ReferenceIdeal.Facts₀.bcast_S_S10000x1 (res_main_v136 R) q)
    (res_main_v3 R) 10000#32 _ _ rfl rfl (res_main_v149 R) rfl

include h in
/-- The kernel's result is the reference's. -/
theorem result : @Eq (FVec Ideal S64 .f32) (W20 m ρ c (Proc.devRef .tc main_v114)) (addf
    (Host.dotGeneral Cert.ReferenceIdeal.dot_S256_S256x64_S64_0_0_n_1_n_n (φ₁ := .f32) (φ₂ := .f32) none (Host.divf
    (Host.reduceAdd (second R) (constant Cert.ReferenceIdeal.S_ .f32 0x00000000#32)
    Cert.ReferenceIdeal.Facts₀.reducesTo_S10000x256_S256_d0 Cert.ReferenceIdeal.Facts₀.h_S_) (broadcastInDim Cert.ReferenceIdeal.S256
    ![] Cert.ReferenceIdeal.Facts₀.bcast_S_S256 (constant Cert.ReferenceIdeal.S_ .f32 0x461C4000#32))) (R (Proc.devRef .tc
    Cert.ReferenceIdeal.main_arg17))) (R (Proc.devRef .tc Cert.ReferenceIdeal.main_arg18))) :=
  @Eq.trans (FVec Ideal S64 .f32) _ _ _ (after6_4_v114 (W19 m ρ c)) (by
    rw [show @Eq (FVec Ideal S10000x256 .f32) (W19 m ρ c (Proc.devRef .tc main_v109)) _ from at19_v109 m ρ c R h,
      show @Eq (FVec Ideal S256x64 .f32) (W19 m ρ c (Proc.devRef .tc main_arg17))
          (R (Proc.devRef .tc Cert.ReferenceIdeal.main_arg17))
          from @Eq.trans (FVec Ideal S256x64 .f32) _ _ _ (W19_args m ρ c main_arg17 (by decide)) h.a17.symm,
      show @Eq (FVec Ideal S64 .f32) (W19 m ρ c (Proc.devRef .tc main_arg18)) (R (Proc.devRef .tc Cert.ReferenceIdeal.main_arg18))
          from @Eq.trans (FVec Ideal S64 .f32) _ _ _ (W19_args m ρ c main_arg18 (by decide)) h.a18.symm] <;> rfl)

end Cert.KernelIdeal.Layer
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.SecondLayer
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-- The reference ends with its arguments unchanged and every semaphore counter at zero. -/
theorem reference_frame : quiescent_ReferenceIdeal (hReferenceIdeal := Cert.ReferenceIdeal.Gen.facts) :=
  fun m g _ => (θ_run Cert.ReferenceIdeal.defs _ _).mono
    (fun r hr => ⟨fun c => (hr c).2, sem_eq_zero_of_no_sems (by decide) r.2⟩) (Cert.ReferenceIdeal.Value.run m g)

/-- From agreeing arguments the kernel and the reference both run and leave the same result: what the kernel's last boundary holds
    in its result array, which is the reference's composed term. -/
theorem same_result : algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Gen.W20 m g c (Proc.devRef .tc Cert.KernelIdeal.main_v114), ?_, ?_⟩
  · refine (θ_run Cert.KernelIdeal.defs _ _).mono (fun r hr c => ?_) (Cert.KernelIdeal.Layer.run m g)
    exact ⟨hr c _ (Cert.KernelIdeal.Gen.mem_uc Cert.KernelIdeal.main_v114 (by decide)),
      (hr c _ (Cert.KernelIdeal.Gen.mem_uc Cert.KernelIdeal.main_arg0 (by decide))).trans (Cert.KernelIdeal.Gen.W20_main_arg0 m g c),
      (hr c _ (Cert.KernelIdeal.Gen.mem_uc Cert.KernelIdeal.main_arg1 (by decide))).trans (Cert.KernelIdeal.Gen.W20_main_arg1 m g c),
      (hr c _ (Cert.KernelIdeal.Gen.mem_uc Cert.KernelIdeal.main_arg2 (by decide))).trans (Cert.KernelIdeal.Gen.W20_main_arg2 m g c),
      (hr c _ (Cert.KernelIdeal.Gen.mem_uc Cert.KernelIdeal.main_arg3 (by decide))).trans (Cert.KernelIdeal.Gen.W20_main_arg3 m g c),
      (hr c _ (Cert.KernelIdeal.Gen.mem_uc Cert.KernelIdeal.main_arg4 (by decide))).trans (Cert.KernelIdeal.Gen.W20_main_arg4 m g c),
      (hr c _ (Cert.KernelIdeal.Gen.mem_uc Cert.KernelIdeal.main_arg5 (by decide))).trans (Cert.KernelIdeal.Gen.W20_main_arg5 m g c),
      (hr c _ (Cert.KernelIdeal.Gen.mem_uc Cert.KernelIdeal.main_arg6 (by decide))).trans (Cert.KernelIdeal.Gen.W20_main_arg6 m g c),
      (hr c _ (Cert.KernelIdeal.Gen.mem_uc Cert.KernelIdeal.main_arg7 (by decide))).trans (Cert.KernelIdeal.Gen.W20_main_arg7 m g c),
      (hr c _ (Cert.KernelIdeal.Gen.mem_uc Cert.KernelIdeal.main_arg8 (by decide))).trans (Cert.KernelIdeal.Gen.W20_main_arg8 m g c),
      (hr c _ (Cert.KernelIdeal.Gen.mem_uc Cert.KernelIdeal.main_arg9 (by decide))).trans (Cert.KernelIdeal.Gen.W20_main_arg9 m g c),
      (hr c _ (Cert.KernelIdeal.Gen.mem_uc Cert.KernelIdeal.main_arg10 (by decide))).trans (Cert.KernelIdeal.Gen.W20_main_arg10 m g c),
      (hr c _ (Cert.KernelIdeal.Gen.mem_uc Cert.KernelIdeal.main_arg11 (by decide))).trans (Cert.KernelIdeal.Gen.W20_main_arg11 m g c),
      (hr c _ (Cert.KernelIdeal.Gen.mem_uc Cert.KernelIdeal.main_arg12 (by decide))).trans (Cert.KernelIdeal.Gen.W20_main_arg12 m g c),
      (hr c _ (Cert.KernelIdeal.Gen.mem_uc Cert.KernelIdeal.main_arg13 (by decide))).trans (Cert.KernelIdeal.Gen.W20_main_arg13 m g c),
      (hr c _ (Cert.KernelIdeal.Gen.mem_uc Cert.KernelIdeal.main_arg14 (by decide))).trans (Cert.KernelIdeal.Gen.W20_main_arg14 m g c),
      (hr c _ (Cert.KernelIdeal.Gen.mem_uc Cert.KernelIdeal.main_arg15 (by decide))).trans (Cert.KernelIdeal.Gen.W20_main_arg15 m g c),
      (hr c _ (Cert.KernelIdeal.Gen.mem_uc Cert.KernelIdeal.main_arg16 (by decide))).trans (Cert.KernelIdeal.Gen.W20_main_arg16 m g c),
      (hr c _ (Cert.KernelIdeal.Gen.mem_uc Cert.KernelIdeal.main_arg17 (by decide))).trans (Cert.KernelIdeal.Gen.W20_main_arg17 m g c),
      (hr c _ (Cert.KernelIdeal.Gen.mem_uc Cert.KernelIdeal.main_arg18 (by decide))).trans (Cert.KernelIdeal.Gen.W20_main_arg18 m g c)⟩
  · refine (θ_run Cert.ReferenceIdeal.defs _ _).mono (fun r hr c => ⟨?_, (hr c).2⟩) (Cert.ReferenceIdeal.Value.run m' g')
    have hagree : Cert.KernelIdeal.Layer.Agree m c (launchContents m' c) := by
      obtain ⟨h0, h1, h2, h3, h4, h5, h6, h7, h8, h9, h10, h11, h12, h13, h14, h15, h16, h17, h18⟩ := hargs c
      exact ⟨h0, h1, h2, h3, h4, h5, h6, h7, h8, h9, h10, h11, h12, h13, h14, h15, h16, h17, h18⟩
    exact @Eq.trans (FVec Ideal Cert.KernelIdeal.S64 .f32) _ _ _ (hr c).1
      (Cert.KernelIdeal.Layer.result m g c (launchContents m' c) hagree).symm

/-- The certificate: the three programs' runs end quiescent with their arguments unchanged, and the kernel's result is the reference's. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, same_result⟩

end Cert.Proof

end
